-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv24" .f32 0x3D2AAAAB#32 ((24⁻¹ : ℝ) : EReal)
  ∧ IdealRules.named_const.Statement Cert.KernelIdeal.κ "invpi" .f32 0x3EA2F983#32 ((4194304 / 13176795 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_v179) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x577x768 : Shape := ⟨3, ![8, 577, 768]⟩
abbrev S8x32x577x577 : Shape := ⟨4, ![8, 32, 577, 577]⟩
abbrev S8x576 : Shape := ⟨2, ![8, 576]⟩
abbrev S2x512 : Shape := ⟨2, ![2, 512]⟩
abbrev S512x768 : Shape := ⟨2, ![512, 768]⟩
abbrev S8x32x1x576 : Shape := ⟨4, ![8, 32, 1, 576]⟩
abbrev S8x32x576 : Shape := ⟨3, ![8, 32, 576]⟩
abbrev S_ : Shape := ⟨0, ![]⟩

class Facts : Prop where
  slices_S8x32x577x577_S8x32x1x576_0_0_0_1 : S8x32x577x577.Slices ![0, 0, 0, 1] S8x32x1x576
  shapeCasts_S8x32x1x576_S8x32x576 : S8x32x1x576.ShapeCasts S8x32x576
  bcast_S_S8x32x576 : S_.BroadcastsInDim S8x32x576 (![] : Fin 0 → Fin S8x32x576.rank)
  reducesTo_S8x32x576_S_d0_1_2 : S8x32x576.ReducesTo [0, 1, 2] S_
  h_S_ : 0 < S_.numel
  bcast_S_S2x512 : S_.BroadcastsInDim S2x512 (![] : Fin 0 → Fin S2x512.rank)
  reducesTo_S2x512_S_d0_1 : S2x512.ReducesTo [0, 1] S_
  bcast_S_S512x768 : S_.BroadcastsInDim S512x768 (![] : Fin 0 → Fin S512x768.rank)
  reducesTo_S512x768_S_d0_1 : S512x768.ReducesTo [0, 1] S_

variable [Facts]

def fn {F : FTy → Type} [FloatOps F] (main_arg0 : FVec F S8x577x768 .f32) (main_arg1 : FVec F S8x32x577x577 .f32) (main_arg2 : FVec F S8x576 .f32) (main_arg3 : FVec F S2x512 .f32) (main_arg4 : FVec F S512x768 .f32) : IVec S_ 1 :=
  let main_v0 : FVec F S8x32x1x576 .f32 := (extractStridedSlice S8x32x1x576 ![0, 0, 0, 1] · slices_S8x32x577x577_S8x32x1x576_0_0_0_1) main_arg1
  let main_v1 : FVec F S8x32x576 .f32 := shapeCast S8x32x576 main_v0 shapeCasts_S8x32x1x576_S8x32x576
  let main_v2 : FVec F S8x32x576 .f32 := Host.absf main_v1
  let main_cst : FVec F S_ .f32 := constant S_ .f32 0x7F800000#32
  let main_v3 : FVec F S8x32x576 .f32 := broadcastInDim S8x32x576 ![] bcast_S_S8x32x576 main_cst
  let main_v4 : IVec S8x32x576 1 := cmpf .olt main_v2 main_v3
  let main_c : IVec S_ 1 := constantI S_ 1 1#1
  let main_v5 : IVec S_ 1 := (fun x v => Host.reduce IntOp.andi x v reducesTo_S8x32x576_S_d0_1_2 h_S_) main_v4 main_c
  let main_v6 : FVec F S2x512 .f32 := Host.absf main_arg3
  let main_cst_0 : FVec F S_ .f32 := constant S_ .f32 0x7F800000#32
  let main_v7 : FVec F S2x512 .f32 := broadcastInDim S2x512 ![] bcast_S_S2x512 main_cst_0
  let main_v8 : IVec S2x512 1 := cmpf .olt main_v6 main_v7
  let main_c_1 : IVec S_ 1 := constantI S_ 1 1#1
  let main_v9 : IVec S_ 1 := (fun x v => Host.reduce IntOp.andi x v reducesTo_S2x512_S_d0_1 h_S_) main_v8 main_c_1
  let main_v10 : IVec S_ 1 := andi main_v5 main_v9
  let main_v11 : FVec F S512x768 .f32 := Host.absf main_arg4
  let main_cst_2 : FVec F S_ .f32 := constant S_ .f32 0x7F800000#32
  let main_v12 : FVec F S512x768 .f32 := broadcastInDim S512x768 ![] bcast_S_S512x768 main_cst_2
  let main_v13 : IVec S512x768 1 := cmpf .olt main_v11 main_v12
  let main_c_3 : IVec S_ 1 := constantI S_ 1 1#1
  let main_v14 : IVec S_ 1 := (fun x v => Host.reduce IntOp.andi x v reducesTo_S512x768_S_d0_1 h_S_) main_v13 main_c_3
  let main_v15 : IVec S_ 1 := andi main_v10 main_v14
  main_v15
-- ==== Kernel.lean ====
abbrev S8x577x768 : Shape := ⟨3, ![8, 577, 768]⟩
abbrev S8x32x577x577 : Shape := ⟨4, ![8, 32, 577, 577]⟩
abbrev S8x576 : Shape := ⟨2, ![8, 576]⟩
abbrev S2x512 : Shape := ⟨2, ![2, 512]⟩
abbrev S512x768 : Shape := ⟨2, ![512, 768]⟩
abbrev S8x32x1x576 : Shape := ⟨4, ![8, 32, 1, 576]⟩
abbrev S8x32x576 : Shape := ⟨3, ![8, 32, 576]⟩
abbrev S256x576 : Shape := ⟨2, ![256, 576]⟩
abbrev S8x84x768 : Shape := ⟨3, ![8, 84, 768]⟩
abbrev S8x1x768 : Shape := ⟨3, ![8, 1, 768]⟩
abbrev S8x1x84 : Shape := ⟨3, ![8, 1, 84]⟩
abbrev S1x577x768 : Shape := ⟨3, ![1, 577, 768]⟩
abbrev S1x84x768 : Shape := ⟨3, ![1, 84, 768]⟩
abbrev S8x84x576 : Shape := ⟨3, ![8, 84, 576]⟩
abbrev S256x576x1 : Shape := ⟨3, ![256, 576, 1]⟩
abbrev S256x1x576 : Shape := ⟨3, ![256, 1, 576]⟩
abbrev S256x576x576 : Shape := ⟨3, ![256, 576, 576]⟩
abbrev S256 : Shape := ⟨1, ![256]⟩
abbrev S256x1 : Shape := ⟨2, ![256, 1]⟩
abbrev S576x1 : Shape := ⟨2, ![576, 1]⟩
abbrev S1x576 : Shape := ⟨2, ![1, 576]⟩
abbrev S576x576 : Shape := ⟨2, ![576, 576]⟩
abbrev S8x1 : Shape := ⟨2, ![8, 1]⟩
abbrev S1x256 : Shape := ⟨2, ![1, 256]⟩
abbrev S8x256 : Shape := ⟨2, ![8, 256]⟩
abbrev S8 : Shape := ⟨1, ![8]⟩
abbrev S1x512 : Shape := ⟨2, ![1, 512]⟩
abbrev S8x512 : Shape := ⟨2, ![8, 512]⟩
abbrev S8x768 : Shape := ⟨2, ![8, 768]⟩
abbrev S8x576x1 : Shape := ⟨3, ![8, 576, 1]⟩
abbrev S8x1x576 : Shape := ⟨3, ![8, 1, 576]⟩
abbrev S8x576x576 : Shape := ⟨3, ![8, 576, 576]⟩
abbrev S1x576x1 : Shape := ⟨3, ![1, 576, 1]⟩
abbrev S1x1x576 : Shape := ⟨3, ![1, 1, 576]⟩
abbrev S8x84 : Shape := ⟨2, ![8, 84]⟩
abbrev S1x84x1 : Shape := ⟨3, ![1, 84, 1]⟩
abbrev S577x768 : Shape := ⟨2, ![577, 768]⟩
abbrev S1x1x768 : Shape := ⟨3, ![1, 1, 768]⟩
abbrev S1x768 : Shape := ⟨2, ![1, 768]⟩
abbrev S1x84x576 : Shape := ⟨3, ![1, 84, 576]⟩
abbrev S84x576 : Shape := ⟨2, ![84, 576]⟩
abbrev S1x576x768 : Shape := ⟨3, ![1, 576, 768]⟩
abbrev S576x768 : Shape := ⟨2, ![576, 768]⟩
abbrev S84x768 : Shape := ⟨2, ![84, 768]⟩

abbrev nBuf : Space → Nat
  | .hbm => 13
  | .vmem => 12
  | .smem => 0
  | _ => 0

abbrev bufTy : (tb : Table) → Fin (tcTables nBuf tb) → BufTy
  | .hbm, ⟨0, _⟩ => ⟨S8x577x768, .f32⟩
  | .hbm, ⟨1, _⟩ => ⟨S8x32x577x577, .f32⟩
  | .hbm, ⟨2, _⟩ => ⟨S8x576, .f32⟩
  | .hbm, ⟨3, _⟩ => ⟨S2x512, .f32⟩
  | .hbm, ⟨4, _⟩ => ⟨S512x768, .f32⟩
  | .hbm, ⟨5, _⟩ => ⟨S8x32x1x576, .f32⟩
  | .hbm, ⟨6, _⟩ => ⟨S8x32x576, .f32⟩
  | .hbm, ⟨7, _⟩ => ⟨S256x576, .f32⟩
  | .hbm, ⟨8, _⟩ => ⟨S8x577x768, .f32⟩
  | .hbm, ⟨9, _⟩ => ⟨S8x84x768, .f32⟩
  | .hbm, ⟨10, _⟩ => ⟨S8x1x768, .f32⟩
  | .hbm, ⟨11, _⟩ => ⟨S8x1x84, .i32⟩
  | .hbm, ⟨12, _⟩ => ⟨S8x84, .i32⟩
  | .local _ .vmem, ⟨0, _⟩ => ⟨S256x576, .f32⟩
  | .local _ .vmem, ⟨1, _⟩ => ⟨S2x512, .f32⟩
  | .local _ .vmem, ⟨2, _⟩ => ⟨S512x768, .f32⟩
  | .local _ .vmem, ⟨3, _⟩ => ⟨S1x577x768, .f32⟩
  | .local _ .vmem, ⟨4, _⟩ => ⟨S1x577x768, .f32⟩
  | .local _ .vmem, ⟨5, _⟩ => ⟨S1x577x768, .f32⟩
  | .local _ .vmem, ⟨6, _⟩ => ⟨S1x577x768, .f32⟩
  | .local _ .vmem, ⟨7, _⟩ => ⟨S1x84x768, .f32⟩
  | .local _ .vmem, ⟨8, _⟩ => ⟨S1x84x768, .f32⟩
  | .local _ .vmem, ⟨9, _⟩ => ⟨S8x1x768, .f32⟩
  | .local _ .vmem, ⟨10, _⟩ => ⟨S8x1x84, .i32⟩
  | .local _ .vmem, ⟨11, _⟩ => ⟨S8x84x576, .f32⟩
  | _, _ => ⟨S8x577x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c31_i32 : BitVec 32 := 31#32
  let v32 : BitVec 32 := Scalar.addi c0_i32_9 c31_i32
  let c1_i32 : BitVec 32 := 1#32
  ⟨c0_i32_9, v32, c1_i32⟩
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg0 : BitVec 32 := BitVec.ofNat 32 (i 0).val
  let c1_i32 : BitVec 32 := 1#32
  let v6 : BitVec 32 := Scalar.subi arg0 c1_i32
  let v14 : Index := Scalar.indexCast v6
  let c0_11 : Index := 0#32
  let c0_12 : Index := 0#32
  ![v14.toNat, 0, 0]
def k0_off2 (i : grid0.Coords) : Fin 3 → Nat :=
  let arg0 : BitVec 32 := BitVec.ofNat 32 (i 0).val
  let c1_i32 : BitVec 32 := 1#32
  let v6 : BitVec 32 := Scalar.subi arg0 c1_i32
  let v21 : Index := Scalar.indexCast v6
  let c0_16 : Index := 0#32
  let c0_17 : Index := 0#32
  ![v21.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x577x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x577x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x84x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x84 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv24" => some ((24⁻¹ : ℝ) : EReal)
  | "invpi" => some ((4194304 / 13176795 : ℝ) : EReal)
  | _ => none
-- ==== ReferenceIdeal.lean ====
abbrev S8x577x768 : Shape := ⟨3, ![8, 577, 768]⟩
abbrev S8x32x577x577 : Shape := ⟨4, ![8, 32, 577, 577]⟩
abbrev S8x576 : Shape := ⟨2, ![8, 576]⟩
abbrev S2x512 : Shape := ⟨2, ![2, 512]⟩
abbrev S512x768 : Shape := ⟨2, ![512, 768]⟩
abbrev S8x32x1x576 : Shape := ⟨4, ![8, 32, 1, 576]⟩
abbrev S8x32x576 : Shape := ⟨3, ![8, 32, 576]⟩
abbrev S8x32x84 : Shape := ⟨3, ![8, 32, 84]⟩
abbrev S8x32x84x1 : Shape := ⟨4, ![8, 32, 84, 1]⟩
abbrev S1x1x1x576 : Shape := ⟨4, ![1, 1, 1, 576]⟩
abbrev S8x32x84x576 : Shape := ⟨4, ![8, 32, 84, 576]⟩
abbrev S_ : Shape := ⟨0, ![]⟩
abbrev S8x32x24x24 : Shape := ⟨4, ![8, 32, 24, 24]⟩
abbrev S8x24x24 : Shape := ⟨3, ![8, 24, 24]⟩
abbrev S8 : Shape := ⟨1, ![8]⟩
abbrev S8x1 : Shape := ⟨2, ![8, 1]⟩
abbrev S8x1x24x24 : Shape := ⟨4, ![8, 1, 24, 24]⟩
abbrev S8x576x32 : Shape := ⟨3, ![8, 576, 32]⟩
abbrev S24 : Shape := ⟨1, ![24]⟩
abbrev S24x24 : Shape := ⟨2, ![24, 24]⟩
abbrev S24x24x1 : Shape := ⟨3, ![24, 24, 1]⟩
abbrev S24x24x2 : Shape := ⟨3, ![24, 24, 2]⟩
abbrev S1x576x2 : Shape := ⟨3, ![1, 576, 2]⟩
abbrev S8x576x2 : Shape := ⟨3, ![8, 576, 2]⟩
abbrev S8x2 : Shape := ⟨2, ![8, 2]⟩
abbrev S8x1x2 : Shape := ⟨3, ![8, 1, 2]⟩
abbrev S8x576x1 : Shape := ⟨3, ![8, 576, 1]⟩
abbrev S8x1x576 : Shape := ⟨3, ![8, 1, 576]⟩
abbrev S8x576x576 : Shape := ⟨3, ![8, 576, 576]⟩
abbrev S8x576x512 : Shape := ⟨3, ![8, 576, 512]⟩
abbrev S8x576x768 : Shape := ⟨3, ![8, 576, 768]⟩
abbrev S8x768 : Shape := ⟨2, ![8, 768]⟩
abbrev S1 : Shape := ⟨1, ![1]⟩
abbrev S8x2688 : Shape := ⟨2, ![8, 2688]⟩
abbrev S8x2688x1 : Shape := ⟨3, ![8, 2688, 1]⟩
abbrev S8x2688x2 : Shape := ⟨3, ![8, 2688, 2]⟩
abbrev S8x26x26 : Shape := ⟨3, ![8, 26, 26]⟩
abbrev S8x84 : Shape := ⟨2, ![8, 84]⟩
abbrev S8x84x1 : Shape := ⟨3, ![8, 84, 1]⟩
abbrev S8x84x2 : Shape := ⟨3, ![8, 84, 2]⟩
abbrev S8x84x768 : Shape := ⟨3, ![8, 84, 768]⟩

abbrev nBuf : Space → Nat
  | .hbm => 276
  | .vmem => 0
  | .smem => 0
  | _ => 0

abbrev hbmTy0_0 (i : Nat) : BufTy := match i % 128 with
  | 0 => ⟨S8x577x768, .f32⟩
  | 1 => ⟨S8x32x577x577, .f32⟩
  | 2 => ⟨S8x576, .f32⟩
  | 3 => ⟨S2x512, .f32⟩
  | 4 => ⟨S512x768, .f32⟩
  | 5 => ⟨S8x32x1x576, .f32⟩
  | 6 => ⟨S8x32x576, .f32⟩
  | 7 => ⟨S8x32x84, .f32⟩
  | 8 => ⟨S8x32x84, .i32⟩
  | 9 => ⟨S8x32x84x1, .i32⟩
  | 10 => ⟨S1x1x1x576, .i32⟩
  | 11 => ⟨S8x32x84x576, .i32⟩
  | 12 => ⟨S8x32x84x576, .i32⟩
  | 13 => ⟨S8x32x84x576, .i1⟩
  | 14 => ⟨S8x32x84x576, .f32⟩
  | 15 => ⟨S_, .f32⟩
  | 16 => ⟨S8x32x576, .f32⟩
  | 17 => ⟨S_, .f32⟩
  | 18 => ⟨S8x32x576, .f32⟩
  | 19 => ⟨S8x32x576, .i1⟩
  | 20 => ⟨S_, .f32⟩
  | 21 => ⟨S8x32x576, .f32⟩
  | 22 => ⟨S8x32x576, .f32⟩
  | 23 => ⟨S8x32x576, .f32⟩
  | 24 => ⟨S8x32x24x24, .f32⟩
  | 25 => ⟨S_, .f32⟩
  | 26 => ⟨S8x24x24, .f32⟩
  | 27 => ⟨S8x576, .f32⟩
  | 28 => ⟨S_, .f32⟩
  | 29 => ⟨S8, .f32⟩
  | 30 => ⟨S8x1, .f32⟩
  | 31 => ⟨S_, .f32⟩
  | 32 => ⟨S8x1, .f32⟩
  | 33 => ⟨S8x1, .f32⟩
  | 34 => ⟨S8x576, .f32⟩
  | 35 => ⟨S8x576, .i1⟩
  | 36 => ⟨S8x576, .f32⟩
  | 37 => ⟨S8x24x24, .f32⟩
  | 38 => ⟨S8x1x24x24, .f32⟩
  | 39 => ⟨S8x32x24x24, .f32⟩
  | 40 => ⟨S8x32x24x24, .f32⟩
  | 41 => ⟨S8x32x576, .f32⟩
  | 42 => ⟨S8x576x32, .f32⟩
  | 43 => ⟨S_, .f32⟩
  | 44 => ⟨S8x576, .f32⟩
  | 45 => ⟨S_, .f32⟩
  | 46 => ⟨S8x576, .f32⟩
  | 47 => ⟨S8x576, .f32⟩
  | 48 => ⟨S8x1, .f32⟩
  | 49 => ⟨S8x1, .i32⟩
  | 50 => ⟨S8, .i32⟩
  | 51 => ⟨S24, .i32⟩
  | 52 => ⟨S24, .i32⟩
  | 53 => ⟨S24x24, .i32⟩
  | 54 => ⟨S24x24, .i32⟩
  | 55 => ⟨S24x24x1, .i32⟩
  | 56 => ⟨S24x24x1, .i32⟩
  | 57 => ⟨S24x24x2, .i32⟩
  | 58 => ⟨S24x24x2, .f32⟩
  | 59 => ⟨S1x576x2, .f32⟩
  | 60 => ⟨S8x576x2, .f32⟩
  | 61 => ⟨S8, .i32⟩
  | 62 => ⟨S_, .i32⟩
  | 63 => ⟨S8, .i32⟩
  | 64 => ⟨S8, .i1⟩
  | 65 => ⟨S_, .i32⟩
  | 66 => ⟨S8, .i32⟩
  | 67 => ⟨S8, .i32⟩
  | 68 => ⟨S8, .i32⟩
  | 69 => ⟨S_, .i32⟩
  | 70 => ⟨S8, .i32⟩
  | 71 => ⟨S8, .i1⟩
  | 72 => ⟨S_, .i32⟩
  | 73 => ⟨S8, .i32⟩
  | 74 => ⟨S8, .i32⟩
  | 75 => ⟨S8, .i32⟩
  | 76 => ⟨S8x1, .i32⟩
  | 77 => ⟨S8x1, .i32⟩
  | 78 => ⟨S8x2, .i32⟩
  | 79 => ⟨S8x2, .f32⟩
  | 80 => ⟨S8x1x2, .f32⟩
  | 81 => ⟨S8x576x2, .f32⟩
  | 82 => ⟨S8x576x2, .f32⟩
  | 83 => ⟨S_, .f32⟩
  | 84 => ⟨S8x576x2, .f32⟩
  | 85 => ⟨S8x576x2, .f32⟩
  | 86 => ⟨S8x576x2, .f32⟩
  | 87 => ⟨S_, .f32⟩
  | 88 => ⟨S8x576, .f32⟩
  | 89 => ⟨S8x576, .f32⟩
  | 90 => ⟨S8x576x1, .f32⟩
  | 91 => ⟨S8x576, .f32⟩
  | 92 => ⟨S8x576x1, .f32⟩
  | 93 => ⟨S8x576, .f32⟩
  | 94 => ⟨S8x576, .f32⟩
  | 95 => ⟨S_, .f32⟩
  | 96 => ⟨S8x576, .f32⟩
  | 97 => ⟨S8x576, .f32⟩
  | 98 => ⟨S_, .f32⟩
  | 99 => ⟨S8x576, .f32⟩
  | 100 => ⟨S8x576, .f32⟩
  | 101 => ⟨S_, .f32⟩
  | 102 => ⟨S8x576, .f32⟩
  | 103 => ⟨S8x576, .f32⟩
  | 104 => ⟨S8x576x1, .f32⟩
  | 105 => ⟨S8x576x1, .f32⟩
  | 106 => ⟨S8x576x2, .f32⟩
  | 107 => ⟨S8x32x576, .f32⟩
  | 108 => ⟨S8x576x32, .f32⟩
  | 109 => ⟨S_, .f32⟩
  | 110 => ⟨S8x576, .f32⟩
  | 111 => ⟨S_, .f32⟩
  | 112 => ⟨S8x576, .f32⟩
  | 113 => ⟨S8x576, .f32⟩
  | 114 => ⟨S8x576x1, .f32⟩
  | 115 => ⟨S8x1x576, .f32⟩
  | 116 => ⟨S8x576x576, .f32⟩
  | 117 => ⟨S8x576x512, .f32⟩
  | 118 => ⟨S8x576x512, .f32⟩
  | 119 => ⟨S_, .f32⟩
  | 120 => ⟨S_, .f32⟩
  | 121 => ⟨S8x576x512, .f32⟩
  | 122 => ⟨S8x576x512, .i1⟩
  | 123 => ⟨S_, .f32⟩
  | 124 => ⟨S8x576x512, .f32⟩
  | 125 => ⟨S8x576x512, .f32⟩
  | 126 => ⟨S8x576x512, .f32⟩
  | 127 => ⟨S_, .f32⟩
  | _ => ⟨S8x577x768, .f32⟩

abbrev hbmTy0_1 (i : Nat) : BufTy := match i % 128 with
  | 0 => ⟨S8x576x512, .f32⟩
  | 1 => ⟨S8x576x512, .f32⟩
  | 2 => ⟨S8x576x768, .f32⟩
  | 3 => ⟨S8x576x768, .f32⟩
  | 4 => ⟨S_, .f32⟩
  | 5 => ⟨S_, .f32⟩
  | 6 => ⟨S8x576x768, .f32⟩
  | 7 => ⟨S8x576x768, .i1⟩
  | 8 => ⟨S_, .f32⟩
  | 9 => ⟨S8x576x768, .f32⟩
  | 10 => ⟨S8x576x768, .f32⟩
  | 11 => ⟨S8x576x768, .f32⟩
  | 12 => ⟨S8x2, .f32⟩
  | 13 => ⟨S8x1, .f32⟩
  | 14 => ⟨S8, .f32⟩
  | 15 => ⟨S_, .f32⟩
  | 16 => ⟨S8, .f32⟩
  | 17 => ⟨S8, .f32⟩
  | 18 => ⟨S8x1, .f32⟩
  | 19 => ⟨S8, .f32⟩
  | 20 => ⟨S8, .f32⟩
  | 21 => ⟨S8, .i32⟩
  | 22 => ⟨S8, .i32⟩
  | 23 => ⟨S_, .i32⟩
  | 24 => ⟨S8, .i32⟩
  | 25 => ⟨S8, .i1⟩
  | 26 => ⟨S_, .i32⟩
  | 27 => ⟨S8, .i32⟩
  | 28 => ⟨S8, .i32⟩
  | 29 => ⟨S8, .i32⟩
  | 30 => ⟨S_, .i32⟩
  | 31 => ⟨S8, .i32⟩
  | 32 => ⟨S8, .i1⟩
  | 33 => ⟨S_, .i32⟩
  | 34 => ⟨S8, .i32⟩
  | 35 => ⟨S8, .i32⟩
  | 36 => ⟨S8, .i32⟩
  | 37 => ⟨S8x1, .i32⟩
  | 38 => ⟨S8x1, .i32⟩
  | 39 => ⟨S8x2, .i32⟩
  | 40 => ⟨S8x768, .f32⟩
  | 41 => ⟨S_, .i32⟩
  | 42 => ⟨S1, .i32⟩
  | 43 => ⟨S8x577x768, .f32⟩
  | 44 => ⟨S8x2688, .i32⟩
  | 45 => ⟨S_, .f32⟩
  | 46 => ⟨S8x576, .f32⟩
  | 47 => ⟨S8, .i32⟩
  | 48 => ⟨S8x1, .i32⟩
  | 49 => ⟨S_, .i32⟩
  | 50 => ⟨S8x1, .i32⟩
  | 51 => ⟨S8x1, .i1⟩
  | 52 => ⟨S_, .i32⟩
  | 53 => ⟨S8x1, .i32⟩
  | 54 => ⟨S8x1, .i32⟩
  | 55 => ⟨S8x1, .i32⟩
  | 56 => ⟨S_, .i32⟩
  | 57 => ⟨S8x2688, .i32⟩
  | 58 => ⟨S8x2688, .i1⟩
  | 59 => ⟨S_, .i32⟩
  | 60 => ⟨S8x2688, .i32⟩
  | 61 => ⟨S8x2688, .i32⟩
  | 62 => ⟨S8x2688, .i32⟩
  | 63 => ⟨S8x2688, .i32⟩
  | 64 => ⟨S8x2688x1, .i32⟩
  | 65 => ⟨S8x2688x1, .i32⟩
  | 66 => ⟨S8x2688x2, .i32⟩
  | 67 => ⟨S_, .f32⟩
  | 68 => ⟨S8x2688, .f32⟩
  | 69 => ⟨S8x576, .f32⟩
  | 70 => ⟨S8x24x24, .f32⟩
  | 71 => ⟨S_, .i32⟩
  | 72 => ⟨S_, .f32⟩
  | 73 => ⟨S8x26x26, .f32⟩
  | 74 => ⟨S8x24x24, .f32⟩
  | 75 => ⟨S_, .f32⟩
  | 76 => ⟨S8x24x24, .f32⟩
  | 77 => ⟨S8x24x24, .f32⟩
  | 78 => ⟨S8x24x24, .f32⟩
  | 79 => ⟨S_, .f32⟩
  | 80 => ⟨S8x24x24, .f32⟩
  | 81 => ⟨S8x24x24, .f32⟩
  | 82 => ⟨S8x24x24, .f32⟩
  | 83 => ⟨S8x24x24, .f32⟩
  | 84 => ⟨S_, .f32⟩
  | 85 => ⟨S8x24x24, .f32⟩
  | 86 => ⟨S8x24x24, .f32⟩
  | 87 => ⟨S8x24x24, .f32⟩
  | 88 => ⟨S8x24x24, .f32⟩
  | 89 => ⟨S_, .f32⟩
  | 90 => ⟨S8x24x24, .f32⟩
  | 91 => ⟨S8x24x24, .f32⟩
  | 92 => ⟨S8x24x24, .f32⟩
  | 93 => ⟨S8x24x24, .f32⟩
  | 94 => ⟨S_, .f32⟩
  | 95 => ⟨S8x24x24, .f32⟩
  | 96 => ⟨S8x24x24, .f32⟩
  | 97 => ⟨S8x24x24, .f32⟩
  | 98 => ⟨S8x24x24, .f32⟩
  | 99 => ⟨S_, .f32⟩
  | 100 => ⟨S8x24x24, .f32⟩
  | 101 => ⟨S8x24x24, .f32⟩
  | 102 => ⟨S8x24x24, .f32⟩
  | 103 => ⟨S8x24x24, .f32⟩
  | 104 => ⟨S_, .f32⟩
  | 105 => ⟨S8x24x24, .f32⟩
  | 106 => ⟨S8x24x24, .f32⟩
  | 107 => ⟨S8x24x24, .f32⟩
  | 108 => ⟨S8x24x24, .f32⟩
  | 109 => ⟨S_, .f32⟩
  | 110 => ⟨S8x24x24, .f32⟩
  | 111 => ⟨S8x24x24, .f32⟩
  | 112 => ⟨S8x24x24, .f32⟩
  | 113 => ⟨S8x24x24, .f32⟩
  | 114 => ⟨S_, .f32⟩
  | 115 => ⟨S8x24x24, .f32⟩
  | 116 => ⟨S8x24x24, .f32⟩
  | 117 => ⟨S8x24x24, .f32⟩
  | 118 => ⟨S8x576, .f32⟩
  | 119 => ⟨S8x576, .f32⟩
  | 120 => ⟨S8x576, .i32⟩
  | 121 => ⟨S8x576, .f32⟩
  | 122 => ⟨S8x576, .i32⟩
  | 123 => ⟨S8x84, .i32⟩
  | 124 => ⟨S_, .i32⟩
  | 125 => ⟨S8x84, .i32⟩
  | 126 => ⟨S8x84, .i32⟩
  | 127 => ⟨S8, .i32⟩
  | _ => ⟨S8x577x768, .f32⟩

abbrev hbmTy0_2 (i : Nat) : BufTy := match i % 128 with
  | 0 => ⟨S8x1, .i32⟩
  | 1 => ⟨S_, .i32⟩
  | 2 => ⟨S8x1, .i32⟩
  | 3 => ⟨S8x1, .i1⟩
  | 4 => ⟨S_, .i32⟩
  | 5 => ⟨S8x1, .i32⟩
  | 6 => ⟨S8x1, .i32⟩
  | 7 => ⟨S8x1, .i32⟩
  | 8 => ⟨S_, .i32⟩
  | 9 => ⟨S8x84, .i32⟩
  | 10 => ⟨S8x84, .i1⟩
  | 11 => ⟨S_, .i32⟩
  | 12 => ⟨S8x84, .i32⟩
  | 13 => ⟨S8x84, .i32⟩
  | 14 => ⟨S8x84, .i32⟩
  | 15 => ⟨S8x84, .i32⟩
  | 16 => ⟨S8x84x1, .i32⟩
  | 17 => ⟨S8x84x1, .i32⟩
  | 18 => ⟨S8x84x2, .i32⟩
  | 19 => ⟨S8x84x768, .f32⟩
  | _ => ⟨S8x577x768, .f32⟩

abbrev hbmTy (i : Nat) : BufTy := match i / 128 with
  | 0 => hbmTy0_0 i
  | 1 => hbmTy0_1 i
  | 2 => hbmTy0_2 i
  | _ => ⟨S8x577x768, .f32⟩

abbrev bufTy : (tb : Table) → Fin (tcTables nBuf tb) → BufTy
  | .hbm, ⟨i, _⟩ => hbmTy i
  | _, _ => ⟨S8x577x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_values_7 : Ref sig .tc := ⟨.hbm, 48, rfl⟩
abbrev main_indices_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_19 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_v86 : Ref sig .tc := ⟨.hbm, 126, rfl⟩
abbrev main_call3_cst : Ref sig .tc := ⟨.hbm, 127, rfl⟩
abbrev main_call3_v0 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_20 : Ref sig .tc := ⟨.hbm, 132, rfl⟩
abbrev main_call4_cst : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_21 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_c_22 : Ref sig .tc := ⟨.hbm, 151, rfl⟩
abbrev main_v101 : Ref sig .tc := ⟨.hbm, 152, rfl⟩
abbrev main_v102 : Ref sig .tc := ⟨.hbm, 153, rfl⟩
abbrev main_c_23 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_c_24 : Ref sig .tc := ⟨.hbm, 158, rfl⟩
abbrev main_v106 : Ref sig .tc := ⟨.hbm, 159, rfl⟩
abbrev main_v107 : Ref sig .tc := ⟨.hbm, 160, rfl⟩
abbrev main_c_25 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_c_26 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_27 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_c_28 : Ref sig .tc := ⟨.hbm, 177, rfl⟩
abbrev main_v121 : Ref sig .tc := ⟨.hbm, 178, rfl⟩
abbrev main_v122 : Ref sig .tc := ⟨.hbm, 179, rfl⟩
abbrev main_c_29 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_c_30 : Ref sig .tc := ⟨.hbm, 184, rfl⟩
abbrev main_v126 : Ref sig .tc := ⟨.hbm, 185, rfl⟩
abbrev main_v127 : Ref sig .tc := ⟨.hbm, 186, rfl⟩
abbrev main_c_31 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_32 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_c_33 : Ref sig .tc := ⟨.hbm, 199, rfl⟩
abbrev main_call5_v0 : Ref sig .tc := ⟨.hbm, 200, rfl⟩
abbrev main_v138 : Ref sig .tc := ⟨.hbm, 201, rfl⟩
abbrev main_v139 : Ref sig .tc := ⟨.hbm, 202, rfl⟩
abbrev main_cst_34 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_35 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_cst_36 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_cst_37 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_cst_38 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_cst_39 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_cst_40 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_cst_41 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_cst_42 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_call6_v0 : Ref sig .tc := ⟨.hbm, 248, rfl⟩
abbrev main_call6_v1_0 : Ref sig .tc := ⟨.hbm, 249, rfl⟩
abbrev main_v176 : Ref sig .tc := ⟨.hbm, 250, rfl⟩
abbrev main_v177 : Ref sig .tc := ⟨.hbm, 251, rfl⟩
abbrev main_c_43 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_c_44 : Ref sig .tc := ⟨.hbm, 257, rfl⟩
abbrev main_v182 : Ref sig .tc := ⟨.hbm, 258, rfl⟩
abbrev main_v183 : Ref sig .tc := ⟨.hbm, 259, rfl⟩
abbrev main_c_45 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_c_46 : Ref sig .tc := ⟨.hbm, 264, rfl⟩
abbrev main_v187 : Ref sig .tc := ⟨.hbm, 265, rfl⟩
abbrev main_v188 : Ref sig .tc := ⟨.hbm, 266, rfl⟩
abbrev main_c_47 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩

abbrev nD : Nat := 1
abbrev τ : Topo := Topo.v7x

variable {F : FTy → Type} [FloatOps F]
-- ==== Proof.KernelFrame.lean ====
/- The kernel's frame of the printed program: the arguments end unchanged, nothing said of the results. -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two cases -/

set_option maxHeartbeats 1000000 in
/-- The first grid point writes two results and the scratch and reads its inputs only. -/
theorem frame_A (c : Dev nD) (i : grid0.Coords) (arg1 : Memref sig .tc .vmem S256x576 .f32) (harg1 : arg1.IsWhole) (arg2 : Memref sig .tc .vmem S2x512 .f32) (harg2 : arg2.IsWhole) (arg3 : Memref sig .tc .vmem S512x768 .f32) (harg3 : arg3.IsWhole) (arg4 : Memref sig .tc .vmem S1x577x768 .f32) (harg4 : arg4.IsWhole) (arg5 : Memref sig .tc .vmem S1x577x768 .f32) (harg5 : arg5.IsWhole) (arg6 : Memref sig .tc .vmem S1x84x768 .f32) (harg6 : arg6.IsWhole) (arg7 : Memref sig .tc .vmem S8x1x768 .f32) (harg7 : arg7.IsWhole) (arg8 : Memref sig .tc .vmem S8x1x84 .i32) (harg8 : arg8.IsWhole) (arg9 : Memref sig .tc .vmem S8x84x576 .f32) (harg9 : arg9.IsWhole)
    (hc0 : k0_cond1 i = 1#1) (hc1 : ¬ k0_cond2 i = 1#1)
    (x0 : Vec F S256x576 .f32) (x1 : Vec F S2x512 .f32) (x2 : Vec F S512x768 .f32) (x3 : Vec F S1x577x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K := by
    intro E K
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexists _; isplitr; swap
      · iexact H4
      · ipureintro; rfl
    isplitl [H5]
    · iexists _; iexists _; isplitr; swap
      · iexact H5
      · ipureintro; rfl
    isplitl [H6]
    · iexists _; iexists _; isplitr; swap
      · iexact H6
      · ipureintro; rfl
    isplitl [H7]
    · iexists _; iexists _; isplitr; swap
      · iexact H7
      · ipureintro; rfl
    iexists _; iexists _; isplitr; swap
    · iexact HS0
    · ipureintro; rfl

set_option maxHeartbeats 1000000 in
/-- A later grid point writes two results and reads its inputs only. -/
theorem frame_B (c : Dev nD) (i : grid0.Coords) (arg1 : Memref sig .tc .vmem S256x576 .f32) (harg1 : arg1.IsWhole) (arg2 : Memref sig .tc .vmem S2x512 .f32) (harg2 : arg2.IsWhole) (arg3 : Memref sig .tc .vmem S512x768 .f32) (harg3 : arg3.IsWhole) (arg4 : Memref sig .tc .vmem S1x577x768 .f32) (harg4 : arg4.IsWhole) (arg5 : Memref sig .tc .vmem S1x577x768 .f32) (harg5 : arg5.IsWhole) (arg6 : Memref sig .tc .vmem S1x84x768 .f32) (harg6 : arg6.IsWhole) (arg7 : Memref sig .tc .vmem S8x1x768 .f32) (harg7 : arg7.IsWhole) (arg8 : Memref sig .tc .vmem S8x1x84 .i32) (harg8 : arg8.IsWhole) (arg9 : Memref sig .tc .vmem S8x84x576 .f32) (harg9 : arg9.IsWhole)
    (hc0 : ¬ k0_cond1 i = 1#1) (hc1 : k0_cond2 i = 1#1)
    (x0 : Vec F S256x576 .f32) (x1 : Vec F S2x512 .f32) (x2 : Vec F S512x768 .f32) (x3 : Vec F S1x577x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K := by
    intro E K
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexists _; isplitr; swap
      · iexact H4
      · ipureintro; rfl
    isplitl [H5]
    · iexists _; iexists _; isplitr; swap
      · iexact H5
      · ipureintro; rfl
    isplitl [H6]
    · iexists _; iexists _; isplitr; swap
      · iexact H6
      · ipureintro; rfl
    isplitl [H7]
    · iexists _; iexists _; isplitr; swap
      · iexact H7
      · ipureintro; rfl
    iexists _; iexists _; isplitr; swap
    · iexact HS0
    · ipureintro; rfl

/-! ## The grid's two conditions -/

/-- The first condition holds at point 0 only. -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- The second holds at every later point. -/
theorem cond2_iff : ∀ t : Fin cfg0.N, k0_cond2 (grid0.coords t) = 1#1 ↔ 1 ≤ t.val :=
  (by decide +kernel : ∀ t : Fin grid0.N, k0_cond2 (grid0.coords t) = 1#1 ↔ 1 ≤ t.val)

/-- The buffer the body gets at point `t` for the scores. -/
abbrev ms0 (t : Fin cfg0.N) : Memref sig .tc .vmem S256x576 .f32 := win0_0.stage (cfg0.slots t 0)
/-- The buffer the body gets at point `t` for the first weight. -/
abbrev ms1 (t : Fin cfg0.N) : Memref sig .tc .vmem S2x512 .f32 := win0_1.stage (cfg0.slots t 1)
/-- The buffer the body gets at point `t` for the second weight. -/
abbrev ms2 (t : Fin cfg0.N) : Memref sig .tc .vmem S512x768 .f32 := win0_2.stage (cfg0.slots t 2)
/-- The buffer the body gets at point `t` for the hidden block. -/
abbrev ms3 (t : Fin cfg0.N) : Memref sig .tc .vmem S1x577x768 .f32 := win0_3.stage (cfg0.slots t 3)
/-- The buffer the body gets at point `t` for the first result. -/
abbrev ms4 (t : Fin cfg0.N) : Memref sig .tc .vmem S1x577x768 .f32 := win0_4.stage (cfg0.slots t 4)
/-- The buffer the body gets at point `t` for the second result. -/
abbrev ms5 (t : Fin cfg0.N) : Memref sig .tc .vmem S1x84x768 .f32 := win0_5.stage (cfg0.slots t 5)
/-- The buffer the body gets at point `t` for the added rows. -/
abbrev ms6 (t : Fin cfg0.N) : Memref sig .tc .vmem S8x1x768 .f32 := win0_6.stage (cfg0.slots t 6)
/-- The buffer the body gets at point `t` for the patch numbers. -/
abbrev ms7 (t : Fin cfg0.N) : Memref sig .tc .vmem S8x1x84 .i32 := win0_7.stage (cfg0.slots t 7)
/-- The scratch, whole. -/
abbrev scM : Memref sig .tc .vmem S8x84x576 .f32 := Memref.whole cc0_scratch0

/-- What a launch holds besides its windows: the scratch with any contents, and the random register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The results' windows, of which nothing is said. -/
def fgt : Fin 8 → Bool := fun w => 4 ≤ w.val

/-- The proof data of the pipeline: the arguments' blocks are kept, and of the results nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- A window's array is the one the host operations before the region left. -/
theorem A_eq (c : Dev nD) (w : Fin cfg0.W) : (dats m 0 c).A w = V m c (Pipeline.arrRef spec0 w) := by
  dsimp only [dats]

/-- Argument window 0 is left as it was read. -/
theorem after_0 (c : Dev nD) (t : Fin cfg0.N) : (dats m 0 c).after 0 t = iblk m c 0 t := by dsimp only [dats]
/-- Argument window 1 is left as it was read. -/
theorem after_1 (c : Dev nD) (t : Fin cfg0.N) : (dats m 0 c).after 1 t = iblk m c 1 t := by dsimp only [dats]
/-- Argument window 2 is left as it was read. -/
theorem after_2 (c : Dev nD) (t : Fin cfg0.N) : (dats m 0 c).after 2 t = iblk m c 2 t := by dsimp only [dats]
/-- Argument window 3 is left as it was read. -/
theorem after_3 (c : Dev nD) (t : Fin cfg0.N) : (dats m 0 c).after 3 t = iblk m c 3 t := by dsimp only [dats]

/-- Argument window 0 holds its block of the array before the body. -/
theorem before_0 (c : Dev nD) (t : Fin cfg0.N) (d) : (dats m 0 c).before 0 t d = iblk m c 0 t :=
  before0_0_of m (dats m 0 c) (A_eq m c 0) (after_0 m c) t d
/-- Argument window 1 holds its block of the array before the body. -/
theorem before_1 (c : Dev nD) (t : Fin cfg0.N) (d) : (dats m 0 c).before 1 t d = iblk m c 1 t :=
  before0_1_of m (dats m 0 c) (A_eq m c 1) (after_1 m c) t d
/-- Argument window 2 holds its block of the array before the body. -/
theorem before_2 (c : Dev nD) (t : Fin cfg0.N) (d) : (dats m 0 c).before 2 t d = iblk m c 2 t :=
  before0_2_of m (dats m 0 c) (A_eq m c 2) (after_2 m c) t d
/-- Argument window 3 holds its block of the array before the body. -/
theorem before_3 (c : Dev nD) (t : Fin cfg0.N) (d) : (dats m 0 c).before 3 t d = iblk m c 3 t :=
  before0_3_of m (dats m 0 c) (A_eq m c 3) (after_3 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare d)
    ∗ (∃ d, owns (c : Thread nD τ) (ms5 t) fullShare d)
    ∗ (∃ d, owns (c : Thread nD τ) (ms6 t) fullShare d)
    ∗ (∃ d, owns (c : Thread nD τ) (ms7 t) fullShare d))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms4 t) fullShare d)
    ∗ (∃ d, owns (c : Thread nD τ) (ms5 t) fullShare d)
    ∗ (∃ d, owns (c : Thread nD τ) (ms6 t) fullShare d)
    ∗ (∃ d, owns (c : Thread nD τ) (ms7 t) fullShare d))

/-- A window that a point uses is left with the contents given for it. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 1600000 in
/-- The body at any point, run from what it is given, ends without fault in what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl]
  simp only [before_0, before_1, before_2, before_3]
  rw [leaves_live m c 0 t rfl, leaves_live m c 1 t rfl, leaves_live m c 2 t rfl, leaves_live m c 3 t rfl, after_0, after_1, after_2, after_3]
  iintro ⟨⟨HS0, Hg⟩, Ho, ⟨%d0, H0⟩, ⟨%d1, H1⟩, ⟨%d2, H2⟩, ⟨%d3, H3⟩, H4, H5, H6, H7⟩
  by_cases h0 : t.val = 0
  · have h2 : ¬ k0_cond2 (grid0.coords t) = 1#1 := fun h => by have := (cond2_iff t).mp h; omega
    iapply ((frame_A c (grid0.coords t) _ _ _ _ _ _ _ _ _ _ _ _ _ _ _ _ _ _ ((cond1_iff t).mpr h0) h2 (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h1 : ¬ k0_cond1 (grid0.coords t) = 1#1 := fun h => h0 ((cond1_iff t).mp h)
    iapply ((frame_B c (grid0.coords t) _ _ _ _ _ _ _ _ _ _ _ _ _ _ _ _ _ _ h1 ((cond2_iff t).mpr (by omega)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The row of the definitions that the launch calls is the body at the point. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- The buffer the host line after the region writes. -/
def T0 : Finset (Ref sig .tc) := {main_v4}
/-- The host operation after the region writes nothing but its own result. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl
  intro b hb
  simp only [StableHlo.reshape_writes, Finset.mem_singleton] at hb
  cases Proc.devRef_injective _ hb; decide

set_option backward.isDefEq.respectTransparency.types false in
set_option maxHeartbeats 800000 in
/-- The launch: every weakly fair execution ends, the inputs as launched and every counter at zero. -/
theorem run_main : θ_run defs (onTc (τ := τ) (main (F := F))) (s₀ m ρ) (fun r => (Pipeline.RDat.FramePostR (cfgs 0) (fun c => (dats m 0 c).toRForget fgt) T0 (V m)) r ∧ r.2.sem = fun _ => 0) :=
  Pipeline.θ_run_frame_around_T_forget (Q' := _) cfgs (dats m) (0 : Fin 1) launch0 defs₀ Variants.none fgt T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- An array the region only reads ends as it stood at the region's entry. -/
theorem kept {r : PUnit × MemSt nD τ sig (Elt F)} (h : Pipeline.RDat.FramePostR (cfgs 0) (fun c => (dats m 0 c).toRForget fgt) T0 (V m) r)
    (c : Dev nD) (w : Fin 8) (hw : fgt w = false) (hin : (cfg0.win w).isOut = false) :
    r.2.mem ((cfg0.spec w).arr.view.loc (c.tc : Thread nD τ)) = V m c (Pipeline.arrRef spec0 w) :=
  (((dats m 0 c).toRForget_arrAt_iff (w := w) hw cfg0.N _).mp ((h c).1 w)).trans (((dats m 0 c).arrAt_in w hin _).trans (A_eq m c w))

/-- The kernel's frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(kept m h.1 c 3 rfl rfl).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      (kept m h.1 c 1 rfl rfl).trans (V_main_arg3 m c),
      (kept m h.1 c 2 rfl rfl).trans (V_main_arg4 m c)⟩, h.2⟩) (run_main m ρ)

end Cert.Kernel.Hand

end
-- ==== Proof.Spec.lean ====
/- The values the kernel's first grid point computes, as one chain of the body's payloads, and the blocks the later points write. -/
module

public import proofs.«01_k».proof.Proof.Gen.KernelIdeal.Skeleton
public import proofs.«01_k».proof.Proof.Gen.KernelIdeal.Loops
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Cert.KernelIdeal.Gen

variable {F : FTy → Type} [FloatOps F] [Named F]

/-- The two bounds of the bisection after its last trip. -/
def bis (x0 : Vec F S256x576 .f32) : IVec S256x1 32 × IVec S256x1 32 :=
  Scf.fold (n := k0_t1_loop.trips) (fun _ (a : IVec S256x1 32 × IVec S256x1 32) => (k0_pay12 x0 a.1 a.2, k0_pay13 x0 a.1 a.2)) (k0_pay8 x0, k0_pay9 x0)

/-- The threshold rank of every row. -/
def thr (x0 : Vec F S256x576 .f32) : IVec S256x1 32 := (bis x0).1

/-- The selection mask. -/
def c57 (x0 : Vec F S256x576 .f32) : IVec S256x576 1 := k0_pay18 (k0_pay14 x0 (thr x0)) (k0_pay15 x0 (thr x0)) (k0_pay16 x0 (thr x0)) (k0_pay17 x0 (thr x0))
/-- The sums of the scaled scores over the heads. -/
def c92 (x0 : Vec F S256x576 .f32) : FVec F S8x576 .f32 := k0_pay20 (k0_pay5 x0) (k0_pay14 x0 (thr x0)) (k0_pay15 x0 (thr x0)) (k0_pay16 x0 (thr x0)) (k0_pay17 x0 (thr x0))
/-- Their means. -/
def c94 (x0 : Vec F S256x576 .f32) : FVec F S8x576 .f32 := k0_pay21 (k0_pay5 x0) (k0_pay14 x0 (thr x0)) (k0_pay15 x0 (thr x0)) (k0_pay16 x0 (thr x0)) (k0_pay17 x0 (thr x0))
/-- The total of a batch's sums. -/
def c96 (x0 : Vec F S256x576 .f32) : FVec F S8x1 .f32 := k0_pay22 (k0_pay5 x0) (k0_pay14 x0 (thr x0)) (k0_pay15 x0 (thr x0)) (k0_pay16 x0 (thr x0)) (k0_pay17 x0 (thr x0))
/-- The positions along a batch's row. -/
def c103 : IVec S8x576 32 := iota .tc S8x576 32 [1] iota_S8x576_d1_w32
/-- The anchor of each batch. -/
def c111 (x0 : Vec F S256x576 .f32) : IVec S8x1 32 := k0_pay24 (c92 x0) (c94 x0) (c96 x0) (k0_pay23 (F := F))
/-- The anchor's grid row. -/
def c135 (x0 : Vec F S256x576 .f32) : IVec S8x1 32 := k0_pay25 (c92 x0) (c94 x0) (c96 x0) (k0_pay23 (F := F))
/-- The anchor's grid column. -/
def c138 (x0 : Vec F S256x576 .f32) : IVec S8x1 32 := k0_pay26 (c92 x0) (c94 x0) (c96 x0) (k0_pay23 (F := F))
/-- The scaled angles. -/
def c188 (x0 : Vec F S256x576 .f32) : FVec F S8x576 .f32 := k0_pay32 c103 (c135 x0) (c138 x0) 24#32 k0_pay27 k0_pay28
/-- The weighted sums of the distances. -/
def c191 (x0 : Vec F S256x576 .f32) : FVec F S8x1 .f32 := k0_pay33 (c94 x0) c103 (c135 x0) (c138 x0) 24#32 k0_pay27 k0_pay28
/-- The first row of the first weight. -/
def w0 (x1 : Vec F S2x512 .f32) : Vec F S1x512 .f32 := View.ld x1 (Rect.unit (s := S2x512) ![0, 0] S1x512.size inb_S2x512_S1x512_0_0)
/-- The second row of the first weight. -/
def w1 (x1 : Vec F S2x512 .f32) : Vec F S1x512 .f32 := View.ld x1 (Rect.unit (s := S2x512) ![1, 0] S1x512.size inb_S2x512_S1x512_1_0)
/-- The product with the second weight. -/
def c227 (x0 : Vec F S256x576 .f32) (x1 : Vec F S2x512 .f32) (x2 : Vec F S512x768 .f32) : FVec F S8x768 .f32 :=
  k0_pay34 (c94 x0) (c188 x0) (c191 x0) (w0 x1) (w1 x1) x2
/-- The mean at the anchor. -/
def c234 (x0 : Vec F S256x576 .f32) : FVec F S8x768 .f32 := k0_pay35 (c94 x0) c103 (c111 x0)

/-- The structure row of every batch, what the first point leaves in the first small result. -/
def ADD (x0 : Vec F S256x576 .f32) (x1 : Vec F S2x512 .f32) (x2 : Vec F S512x768 .f32) : FVec F S8x1x768 .f32 :=
  k0_pay36 (c227 x0 x1 x2) (c234 x0)

/-- The positions down a column. -/
def c41 : IVec S576x1 32 := iota .tc S576x1 32 [0] iota_S576x1_d0_w32
/-- The positions along a row. -/
def c42 : IVec S1x576 32 := iota .tc S1x576 32 [1] iota_S1x576_d1_w32
/-- The counts of the heads that select a position. -/
def c246 (x0 : Vec F S256x576 .f32) : FVec F S8x576 .f32 := k0_pay37 (c57 x0) (k0_pay19 (F := F))
/-- The smoothing weights along the grid rows. -/
def c317 : FVec F S576x576 .f32 := k0_pay44 c42 (k0_pay38 c41) 24#32 (k0_pay40 c42) (k0_pay41 c42)
/-- Whether two positions share a grid column. -/
def c319 : IVec S576x576 1 := k0_pay45 c42 (k0_pay39 c41) 24#32 (k0_pay40 c42) (k0_pay41 c42)
/-- Whether two positions' grid columns are neighbours. -/
def c321 : IVec S576x576 1 := k0_pay46 c42 (k0_pay39 c41) 24#32 (k0_pay40 c42) (k0_pay41 c42)

/-- The chosen patches of every batch, in order. -/
def PIDX (x0 : Vec F S256x576 .f32) : IVec S8x1x84 32 :=
  k0_pay49 c42 (c246 x0) c317 c319 c321 (Scalar.ofBits (F := F) .f32 0x00000000#32) k0_pay47
/-- The one-hot selection matrices, what the first point leaves in the scratch. -/
def OH (x0 : Vec F S256x576 .f32) : FVec F S8x84x576 .f32 :=
  k0_pay1 (k0_pay50 c42 (c246 x0) c317 c319 c321 (Scalar.ofBits (F := F) .f32 0x00000000#32) k0_pay47)

end Cert.KernelIdeal.Hand

end
-- ==== Proof.Body.lean ====
/- The body's two cases at the ideal program: which values each leaves in the four results' blocks and in the scratch. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import proofs.«01_k».proof.Proof.Spec
public import Idealize.ShloMosaic.Lib.VecWindow
public import Idealize.ShloMosaic.Lib.Pipeline.Value
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The offset of a whole matrix, as a constant function. -/
theorem hz2 : (![0, 0] : Fin 2 → Nat) = fun _ => 0 := funext fun a => by fin_cases a <;> rfl
/-- The offset of a whole array of three axes, as a constant function. -/
theorem hz3 : (![0, 0, 0] : Fin 3 → Nat) = fun _ => 0 := funext fun a => by fin_cases a <;> rfl

set_option maxHeartbeats 1000000 in
/-- The first grid point: the selection, stored in the two small results and the scratch. -/
theorem run_A (c : Dev nD) (i : grid0.Coords) (arg1 : Memref sig .tc .vmem S256x576 .f32) (harg1 : arg1.IsWhole) (arg2 : Memref sig .tc .vmem S2x512 .f32) (harg2 : arg2.IsWhole) (arg3 : Memref sig .tc .vmem S512x768 .f32) (harg3 : arg3.IsWhole) (arg4 : Memref sig .tc .vmem S1x577x768 .f32) (harg4 : arg4.IsWhole) (arg5 : Memref sig .tc .vmem S1x577x768 .f32) (harg5 : arg5.IsWhole) (arg6 : Memref sig .tc .vmem S1x84x768 .f32) (harg6 : arg6.IsWhole) (arg7 : Memref sig .tc .vmem S8x1x768 .f32) (harg7 : arg7.IsWhole) (arg8 : Memref sig .tc .vmem S8x1x84 .i32) (harg8 : arg8.IsWhole) (arg9 : Memref sig .tc .vmem S8x84x576 .f32) (harg9 : arg9.IsWhole)
    (hc0 : k0_cond1 i = 1#1) (hc1 : ¬ k0_cond2 i = 1#1)
    (x0 : Vec F S256x576 .f32) (x1 : Vec F S2x512 .f32) (x2 : Vec F S512x768 .f32) (x3 : Vec F S1x577x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare (ADD x0 x1 x2) ∗ owns (c : Thread nD τ) arg8 fullShare (PIDX x0) ∗ owns (c : Thread nD τ) arg9 fullShare (OH x0)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K := by
    intro E K
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H6]
    · iexists _; isplitr; swap
      · iexact H6
      · ipureintro
        refine (View.read_writes_full _ _ _ _ _).trans ?_
        sl_unfold_words
        simp only [View.readAt_eq_ld, harg1.read_unread, harg2.read_unread, harg3.read_unread, View.ld_unit_zero (S := S256x576) hz2, View.ld_unit_zero (S := S512x768) hz2]
        rfl
    isplitl [H7]
    · iexists _; isplitr; swap
      · iexact H7
      · ipureintro
        refine (View.read_writes_full _ _ _ _ _).trans ?_
        sl_unfold_words
        simp only [View.readAt_eq_ld, harg1.read_unread, View.ld_unit_zero (S := S256x576) hz2]
        rfl
    iexists _; isplitr; swap
    · iexact HS0
    · ipureintro
      refine (View.read_writes_full _ _ _ _ _).trans ?_
      sl_unfold_words
      simp only [View.readAt_eq_ld, harg1.read_unread, View.ld_unit_zero (S := S256x576) hz2]
      rfl

/-- The block of the first result a later point writes: the hidden block, its row 0 with the structure row added. -/
def OUT5 (i : grid0.Coords) (h : k0_cond2 i = 1#1) (x3 : Vec F S1x577x768 .f32) (a7 : Vec F S8x1x768 .f32) : Vec F S1x577x768 .f32 :=
  VecWindow.put (k0_pay2 x3) ![0, 0, 0] S1x1x768.size
    (k0_pay3 (View.ld x3 (Rect.unit (s := S1x577x768) ![0, 0, 0] S1x1x768.size inb_S1x577x768_S1x1x768_0_0_0))
      (View.ld a7 (Rect.unit (s := S8x1x768) (k0_off1 i) S1x1x768.size (k0_off1_inb i h))))

/-- The block of the second result a later point writes: the chosen rows of the hidden block. -/
def OUT6 (i : grid0.Coords) (h : k0_cond2 i = 1#1) (x3 : Vec F S1x577x768 .f32) (a9 : Vec F S8x84x576 .f32) : Vec F S1x84x768 .f32 :=
  k0_pay4 (View.ld a9 (Rect.unit (s := S8x84x576) (k0_off2 i) S1x84x576.size (k0_off2_inb i h)))
    (View.ld x3 (Rect.unit (s := S1x577x768) ![0, 1, 0] S1x576x768.size inb_S1x577x768_S1x576x768_0_1_0))

set_option maxHeartbeats 1000000 in
/-- A later grid point: one block of the two large results, from the first point's values. -/
theorem run_B (c : Dev nD) (i : grid0.Coords) (arg1 : Memref sig .tc .vmem S256x576 .f32) (harg1 : arg1.IsWhole) (arg2 : Memref sig .tc .vmem S2x512 .f32) (harg2 : arg2.IsWhole) (arg3 : Memref sig .tc .vmem S512x768 .f32) (harg3 : arg3.IsWhole) (arg4 : Memref sig .tc .vmem S1x577x768 .f32) (harg4 : arg4.IsWhole) (arg5 : Memref sig .tc .vmem S1x577x768 .f32) (harg5 : arg5.IsWhole) (arg6 : Memref sig .tc .vmem S1x84x768 .f32) (harg6 : arg6.IsWhole) (arg7 : Memref sig .tc .vmem S8x1x768 .f32) (harg7 : arg7.IsWhole) (arg8 : Memref sig .tc .vmem S8x1x84 .i32) (harg8 : arg8.IsWhole) (arg9 : Memref sig .tc .vmem S8x84x576 .f32) (harg9 : arg9.IsWhole)
    (hc0 : ¬ k0_cond1 i = 1#1) (hc1 : k0_cond2 i = 1#1)
    (x3 : Vec F S1x577x768 .f32) (a7 : Vec F S8x1x768 .f32) (a9 : Vec F S8x84x576 .f32) :
      ∀ (E : Set ℕ) (K : PUnit → sProp 𝕄),
        iprop(owns (c : Thread nD τ) arg4 fullShare x3 ∗ (∃ d, owns (c : Thread nD τ) arg5 fullShare d) ∗ (∃ d, owns (c : Thread nD τ) arg6 fullShare d) ∗ owns (c : Thread nD τ) arg7 fullShare a7 ∗ owns (c : Thread nD τ) arg9 fullShare a9
            ∗ (iprop(owns (c : Thread nD τ) arg4 fullShare x3 ∗ owns (c : Thread nD τ) arg5 fullShare (OUT5 i hc1 x3 a7) ∗ owns (c : Thread nD τ) arg6 fullShare (OUT6 i hc1 x3 a9) ∗ owns (c : Thread nD τ) arg7 fullShare a7 ∗ owns (c : Thread nD τ) arg9 fullShare a9) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K := by
    intro E K
    simp only [cc0__fused_body_eq_skeleton]; unfold cc0__fused_body_skel
    unfold owns
    iintro ⟨⟨%f3, %hf3, H3⟩, ⟨%d4, %f4, -, H4⟩, ⟨%d5, %f5, -, H5⟩, ⟨%f6, %hf6, H6⟩, ⟨%fs0, %hfs0, HS0⟩, Hk⟩
    obtain rfl := harg4.eq_unread hf3; obtain rfl := harg7.eq_unread hf6; obtain rfl := harg9.eq_unread hfs0
    sl_exec (disch := first | sl_exact hc0 | sl_exact hc1)
    sl_step
    iapply Hk
    isplitl [H3]
    · iexists _; isplitr; · ipureintro; exact harg4.read_unread _
      iexact H3
    isplitl [H4]
    · iexists _; isplitr; swap
      · iexact H4
      · ipureintro
        refine (View.read_writes_cons_put _ _ _ _ _ rfl).trans ?_
        rw [View.read_writes_full]
        sl_unfold_words
        simp only [View.readAt_eq_ld, harg4.read_unread, harg7.read_unread, View.ld_unit_zero (S := S1x577x768) hz3]
        rfl
    isplitl [H5]
    · iexists _; isplitr; swap
      · iexact H5
      · ipureintro
        refine (View.read_writes_full _ _ _ _ _).trans ?_
        sl_unfold_words
        simp only [View.readAt_eq_ld, harg4.read_unread, harg9.read_unread]
        rfl
    isplitl [H6]
    · iexists _; isplitr; · ipureintro; exact harg7.read_unread _
      iexact H6
    iexists _; isplitr; · ipureintro; exact harg9.read_unread _
    iexact HS0

end Cert.KernelIdeal.Hand

end
-- ==== Proof.Launch.lean ====
/- The ideal kernel's run: what every window's buffer and the scratch hold at every grid point, and the launch. -/
module

public import proofs.«01_k».proof.Proof.Body
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's two conditions -/

/-- The first condition holds at point 0 only. -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- The second holds at every later point. -/
theorem cond2_iff : ∀ t : Fin cfg0.N, k0_cond2 (grid0.coords t) = 1#1 ↔ 1 ≤ t.val :=
  (by decide +kernel : ∀ t : Fin grid0.N, k0_cond2 (grid0.coords t) = 1#1 ↔ 1 ≤ t.val)

/-- The first result is idle at point 0 only. -/
theorem idle4_iff : ∀ t : Fin cfg0.N, cfg0.idle 4 (grid0.coords t) = true ↔ t.val = 0 :=
  (by decide +kernel : ∀ t : Fin grid0.N, idle0 4 (grid0.coords t) = true ↔ t.val = 0)
/-- The second result is idle at point 0 only. -/
theorem idle5_iff : ∀ t : Fin cfg0.N, cfg0.idle 5 (grid0.coords t) = true ↔ t.val = 0 :=
  (by decide +kernel : ∀ t : Fin grid0.N, idle0 5 (grid0.coords t) = true ↔ t.val = 0)
/-- The added rows are idle from point 1 on. -/
theorem idle6_iff : ∀ t : Fin cfg0.N, cfg0.idle 6 (grid0.coords t) = true ↔ 1 ≤ t.val :=
  (by decide +kernel : ∀ t : Fin grid0.N, idle0 6 (grid0.coords t) = true ↔ 1 ≤ t.val)
/-- The patch numbers are idle from point 1 on. -/
theorem idle7_iff : ∀ t : Fin cfg0.N, cfg0.idle 7 (grid0.coords t) = true ↔ 1 ≤ t.val :=
  (by decide +kernel : ∀ t : Fin grid0.N, idle0 7 (grid0.coords t) = true ↔ 1 ≤ t.val)
/-- The first result is written back from point 1 on. -/
theorem flush4_iff : ∀ t : Fin cfg0.N, (cfg0.win 4).flush t = true ↔ 1 ≤ t.val :=
  (by decide +kernel : ∀ t : Fin grid0.N, win0_4.flush t = true ↔ 1 ≤ t.val)
/-- The second result is written back from point 1 on. -/
theorem flush5_iff : ∀ t : Fin cfg0.N, (cfg0.win 5).flush t = true ↔ 1 ≤ t.val :=
  (by decide +kernel : ∀ t : Fin grid0.N, win0_5.flush t = true ↔ 1 ≤ t.val)

/-- The buffer the body gets at point `t` for the scores. -/
abbrev ms0 (t : Fin cfg0.N) : Memref sig .tc .vmem S256x576 .f32 := win0_0.stage (cfg0.slots t 0)
/-- The buffer the body gets at point `t` for the first weight. -/
abbrev ms1 (t : Fin cfg0.N) : Memref sig .tc .vmem S2x512 .f32 := win0_1.stage (cfg0.slots t 1)
/-- The buffer the body gets at point `t` for the second weight. -/
abbrev ms2 (t : Fin cfg0.N) : Memref sig .tc .vmem S512x768 .f32 := win0_2.stage (cfg0.slots t 2)
/-- The buffer the body gets at point `t` for the hidden block. -/
abbrev ms3 (t : Fin cfg0.N) : Memref sig .tc .vmem S1x577x768 .f32 := win0_3.stage (cfg0.slots t 3)
/-- The buffer the body gets at point `t` for the first result. -/
abbrev ms4 (t : Fin cfg0.N) : Memref sig .tc .vmem S1x577x768 .f32 := win0_4.stage (cfg0.slots t 4)
/-- The buffer the body gets at point `t` for the second result. -/
abbrev ms5 (t : Fin cfg0.N) : Memref sig .tc .vmem S1x84x768 .f32 := win0_5.stage (cfg0.slots t 5)
/-- The buffer the body gets at point `t` for the added rows. -/
abbrev ms6 (t : Fin cfg0.N) : Memref sig .tc .vmem S8x1x768 .f32 := win0_6.stage (cfg0.slots t 6)
/-- The buffer the body gets at point `t` for the patch numbers. -/
abbrev ms7 (t : Fin cfg0.N) : Memref sig .tc .vmem S8x1x84 .i32 := win0_7.stage (cfg0.slots t 7)
/-- The scratch, whole. -/
abbrev scM : Memref sig .tc .vmem S8x84x576 .f32 := Memref.whole cc0_scratch0

/-- What a launch holds besides its windows: the scratch with any contents, and the random register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the windows hold -/

/-- The scores, and the two weights, as the body reads them. -/
def X0 (c : Dev nD) : Vec F S256x576 .f32 := iblk m c 0 t0_0
/-- The first weight as the body reads it. -/
def X1 (c : Dev nD) : Vec F S2x512 .f32 := iblk m c 1 t0_0
/-- The second weight as the body reads it. -/
def X2 (c : Dev nD) : Vec F S512x768 .f32 := iblk m c 2 t0_0
/-- The hidden block of point `t`. -/
def X3 (c : Dev nD) (t : Fin cfg0.N) : Vec F S1x577x768 .f32 := iblk m c 3 t

/-- The first result's block at point `t`. -/
def AF4 (c : Dev nD) (t : Fin cfg0.N) : Vec F S1x577x768 .f32 :=
  if h : k0_cond2 (grid0.coords t) = 1#1 then OUT5 (grid0.coords t) h (X3 m c t) (ADD (X0 m c) (X1 m c) (X2 m c))
  else fun _ => Scalar.ofBits (F := F) .f32 0x00000000#32
/-- The second result's block at point `t`. -/
def AF5 (c : Dev nD) (t : Fin cfg0.N) : Vec F S1x84x768 .f32 :=
  if h : k0_cond2 (grid0.coords t) = 1#1 then OUT6 (grid0.coords t) h (X3 m c t) (OH (X0 m c))
  else fun _ => Scalar.ofBits (F := F) .f32 0x00000000#32

/-- The invariant: before the first point the scratch holds anything, afterwards the selection matrices. -/
def PHI (c : Dev nD) (t : Fin (cfg0.N + 1)) : sProp 𝕄 :=
  if t.val = 0 then Pipeline.ΦA spec0 c
  else iprop(owns (c : Thread nD τ) scM fullShare (OH (X0 m c)) ∗ (∃ r, prngReg c r))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => AF4 m c t
    | ⟨5, _⟩ => AF5 m c t
    | ⟨6, _⟩ => ADD (X0 m c) (X1 m c) (X2 m c)
    | ⟨7, _⟩ => PIDX (X0 m c)
  Φ := PHI m c
  q _ := fullShare
  owed _ := 0

/-- A window's array is the one the host operations before the region left. -/
theorem A_eq (c : Dev nD) (w : Fin cfg0.W) : (dats m 0 c).A w = V m c (Pipeline.arrRef spec0 w) := by
  dsimp only [dats]

/-- Argument window 0 is left as it was read. -/
theorem after_0 (c : Dev nD) (t : Fin cfg0.N) : (dats m 0 c).after 0 t = iblk m c 0 t := by dsimp only [dats]
/-- Argument window 1 is left as it was read. -/
theorem after_1 (c : Dev nD) (t : Fin cfg0.N) : (dats m 0 c).after 1 t = iblk m c 1 t := by dsimp only [dats]
/-- Argument window 2 is left as it was read. -/
theorem after_2 (c : Dev nD) (t : Fin cfg0.N) : (dats m 0 c).after 2 t = iblk m c 2 t := by dsimp only [dats]
/-- Argument window 3 is left as it was read. -/
theorem after_3 (c : Dev nD) (t : Fin cfg0.N) : (dats m 0 c).after 3 t = iblk m c 3 t := by dsimp only [dats]
/-- The first result's block after a point. -/
theorem after_4 (c : Dev nD) (t : Fin cfg0.N) : (dats m 0 c).after 4 t = AF4 m c t := by dsimp only [dats]
/-- The second result's block after a point. -/
theorem after_5 (c : Dev nD) (t : Fin cfg0.N) : (dats m 0 c).after 5 t = AF5 m c t := by dsimp only [dats]
/-- The added rows after a point. -/
theorem after_6 (c : Dev nD) (t : Fin cfg0.N) : (dats m 0 c).after 6 t = ADD (X0 m c) (X1 m c) (X2 m c) := by dsimp only [dats]
/-- The patch numbers after a point. -/
theorem after_7 (c : Dev nD) (t : Fin cfg0.N) : (dats m 0 c).after 7 t = PIDX (X0 m c) := by dsimp only [dats]

/-- Argument window 0 holds its block of the array before the body. -/
theorem before_0 (c : Dev nD) (t : Fin cfg0.N) (d) : (dats m 0 c).before 0 t d = iblk m c 0 t :=
  before0_0_of m (dats m 0 c) (A_eq m c 0) (after_0 m c) t d
/-- Argument window 1 holds its block of the array before the body. -/
theorem before_1 (c : Dev nD) (t : Fin cfg0.N) (d) : (dats m 0 c).before 1 t d = iblk m c 1 t :=
  before0_1_of m (dats m 0 c) (A_eq m c 1) (after_1 m c) t d
/-- Argument window 2 holds its block of the array before the body. -/
theorem before_2 (c : Dev nD) (t : Fin cfg0.N) (d) : (dats m 0 c).before 2 t d = iblk m c 2 t :=
  before0_2_of m (dats m 0 c) (A_eq m c 2) (after_2 m c) t d
/-- Argument window 3 holds its block of the array before the body. -/
theorem before_3 (c : Dev nD) (t : Fin cfg0.N) (d) : (dats m 0 c).before 3 t d = iblk m c 3 t :=
  before0_3_of m (dats m 0 c) (A_eq m c 3) (after_3 m c) t d

/-- A result never fetched, live at point 0 only and written back at the last point only, holds from point 1 on what the
    first point left. -/
theorem before_const (c : Dev nD) (w : Fin cfg0.W) (v : (cfg0.win w).block.Idx → Elt F (cfg0.win w).elt)
    (hfetch : ∀ t, (cfg0.win w).fetch t = false) (hflush : ∀ t : Fin cfg0.N, (cfg0.win w).flush t = true ↔ t.val % 9 = 8)
    (hidle : ∀ t : Fin cfg0.N, cfg0.idle w (grid0.coords t) = true ↔ 1 ≤ t.val)
    (hkept : ∀ t d, (dats m 0 c).kept w t d = v) :
    ∀ (n : ℕ) (hn : n < cfg0.N) (h1 : 1 ≤ n) (d), (dats m 0 c).before w ⟨n, hn⟩ d = v := by
  intro n
  induction n with
  | zero => intro _ h; omega
  | succ n ih =>
    intro hn _ d
    have hN : cfg0.N = 9 := N_0
    rw [Dat.before_of_pos _ _ _ (Nat.succ_ne_zero n) (hfetch _)]
    have hf : (cfg0.win w).flush ⟨n, Nat.lt_of_succ_lt hn⟩ = false := by
      rw [Bool.eq_false_iff]; intro h; have := (hflush _).mp h; simp only at this; omega
    simp only [Nat.add_sub_cancel]
    rw [hf, if_neg Bool.false_ne_true]
    unfold Dat.left
    by_cases h0 : n = 0
    · have hi : cfg0.idle w (cfg0.grid.coords ⟨n, Nat.lt_of_succ_lt hn⟩) = false := by
        rw [Bool.eq_false_iff]; intro h; have := (hidle _).mp h; simp only at this; omega
      rw [hi]; exact hkept _ _
    · have hi : cfg0.idle w (cfg0.grid.coords ⟨n, Nat.lt_of_succ_lt hn⟩) = true := (hidle _).mpr (by simp only; omega)
      rw [hi]; exact ih (Nat.lt_of_succ_lt hn) (by omega) d

/-- From point 1 on the added rows are there before the body. -/
theorem before_6 (c : Dev nD) (t : Fin cfg0.N) (h : 1 ≤ t.val) (d) : (dats m 0 c).before 6 t d = ADD (X0 m c) (X1 m c) (X2 m c) :=
  before_const m c 6 (ADD (X0 m c) (X1 m c) (X2 m c)) (fun _ => rfl) flush0_6 idle6_iff (fun t d => after_6 m c t) t.val t.isLt h d
/-- From point 1 on the patch numbers are there before the body. -/
theorem before_7 (c : Dev nD) (t : Fin cfg0.N) (h : 1 ≤ t.val) (d) : (dats m 0 c).before 7 t d = PIDX (X0 m c) :=
  before_const m c 7 (PIDX (X0 m c)) (fun _ => rfl) flush0_7 idle7_iff (fun t d => after_7 m c t) t.val t.isLt h d

/-! ## The body obligation -/

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What the body leaves at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- A window that a point uses is left with the contents given for it. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window holding after its idle points what the first one left is handed on as it is, written back or not. -/
theorem leaves_const (c : Dev nD) (w : Fin cfg0.W) (t : Fin cfg0.N) (v : (cfg0.win w).block.Idx → Elt F (cfg0.win w).elt)
    (hi : cfg0.idle w (cfg0.grid.coords t) = true) (hb : ∀ d, (dats m 0 c).before w t d = v) (ha : (dats m 0 c).after w t = v) :
    owns (c : Thread nD τ) ((cfg0.win w).stage (cfg0.slots t w)) fullShare v ⊢ ((dats m 0 c).leavesExact w t : sProp 𝕄) := by
  unfold Dat.leavesExact
  rw [hi]
  by_cases hf : (cfg0.win w).flush t = true
  · rw [hf, ha]
  · rw [Bool.not_eq_true] at hf
    rw [hf]
    iintro H
    iexists v
    rw [hb]
    iexact H

set_option maxHeartbeats 1600000 in
/-- The body at any point, run from what it is given, ends without fault in what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN : t.val < 9 := lt_of_lt_of_eq t.isLt (show cfg0.N = 9 from N_0)
  rw [show (dats m 0 c).Φ t.castSucc = PHI m c t.castSucc from rfl, show (dats m 0 c).Φ t.succ = PHI m c t.succ from rfl,
    show (dats m 0 c).owesAt () t.succ = (dats m 0 c).owesAt () t.castSucc from rfl]
  have hs : PHI m c t.succ = iprop(owns (c : Thread nD τ) scM fullShare (OH (X0 m c)) ∗ (∃ r, prngReg c r)) := by
    unfold PHI; rw [if_neg (by simp)]
  rw [hs]
  simp only [before_0, before_1, before_2, before_3]
  rw [leaves_live m c 0 t rfl, leaves_live m c 1 t rfl, leaves_live m c 2 t rfl, leaves_live m c 3 t rfl, after_0, after_1, after_2, after_3]
  by_cases h0 : t.val = 0
  · obtain rfl : t = t0_0 := Fin.ext h0
    have hp : PHI m c (Fin.castSucc t0_0) = iprop(iprop((∃ d, owns (c : Thread nD τ) scM fullShare d)) ∗ (∃ r, prngReg c r)) := by
      unfold PHI; rw [if_pos (by rfl), PhiA_eq]
    rw [hp]
    rw [(dats m 0 c).leavesExact_idle 4 t0_0 ((idle4_iff t0_0).mpr rfl) (by rw [Bool.eq_false_iff]; intro h; exact absurd ((flush4_iff t0_0).mp h) (by decide)),
      (dats m 0 c).leavesExact_idle 5 t0_0 ((idle5_iff t0_0).mpr rfl) (by rw [Bool.eq_false_iff]; intro h; exact absurd ((flush5_iff t0_0).mp h) (by decide)),
      leaves_live m c 6 t0_0 (by rw [Bool.eq_false_iff]; intro h; exact absurd ((idle6_iff t0_0).mp h) (by decide)),
      leaves_live m c 7 t0_0 (by rw [Bool.eq_false_iff]; intro h; exact absurd ((idle7_iff t0_0).mp h) (by decide)), after_6, after_7]
    iintro ⟨⟨HS0, Hg⟩, Ho, ⟨%d0, H0⟩, ⟨%d1, H1⟩, ⟨%d2, H2⟩, ⟨%d3, H3⟩, H4, H5, ⟨%d6, H6⟩, ⟨%d7, H7⟩⟩
    iapply ((run_A c (grid0.coords t0_0) _ _ _ _ _ _ _ _ _ _ _ _ _ _ _ _ _ _ ((cond1_iff t0_0).mpr rfl) (fun h => absurd ((cond2_iff t0_0).mp h) (by decide)) (iblk m c 0 t0_0) (iblk m c 1 t0_0) (iblk m c 2 t0_0) (iblk m c 3 t0_0)) Set.univ _)
    isplitl [H0]; · iexact H0
    isplitl [H1]; · iexact H1
    isplitl [H2]; · iexact H2
    isplitl [H3]; · iexact H3
    isplitl [H6]; · iexists _; iexact H6
    isplitl [H7]; · iexists _; iexact H7
    isplitl [HS0]; · iexact HS0
    iintro ⟨H0, H1, H2, H3, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h1 : 1 ≤ t.val := by omega
    have hp : PHI m c t.castSucc = iprop(owns (c : Thread nD τ) scM fullShare (OH (X0 m c)) ∗ (∃ r, prngReg c r)) := by
      unfold PHI; rw [if_neg (by simpa using h0)]
    rw [hp]
    rw [leaves_live m c 4 t (by rw [Bool.eq_false_iff]; intro h; exact h0 ((idle4_iff t).mp h)),
      leaves_live m c 5 t (by rw [Bool.eq_false_iff]; intro h; exact h0 ((idle5_iff t).mp h)), after_4, after_5]
    simp only [before_6 m c t h1, before_7 m c t h1]
    have h2 := (cond2_iff t).mpr h1
    rw [show AF4 m c t = OUT5 (grid0.coords t) h2 (iblk m c 3 t) (ADD (X0 m c) (X1 m c) (X2 m c)) from dif_pos h2,
      show AF5 m c t = OUT6 (grid0.coords t) h2 (iblk m c 3 t) (OH (X0 m c)) from dif_pos h2]
    have l6 := leaves_const m c 6 t _ ((idle6_iff t).mpr h1) (before_6 m c t h1) (after_6 m c t)
    have l7 := leaves_const m c 7 t _ ((idle7_iff t).mpr h1) (before_7 m c t h1) (after_7 m c t)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_B c (grid0.coords t) _ (hstage0_0 ((cfg0.slots t 0).cast nbuf0_0)) _ (hstage0_1 ((cfg0.slots t 1).cast nbuf0_1)) _ (hstage0_2 ((cfg0.slots t 2).cast nbuf0_2)) _ _ _ _ _ _ _ _ _ (hstage0_7 ((cfg0.slots t 7).cast nbuf0_7)) _ _ (fun h => h0 ((cond1_iff t).mp h)) h2 (iblk m c 3 t) (ADD (X0 m c) (X1 m c) (X2 m c)) (OH (X0 m c))) Set.univ _)
    isplitl [H3]; · iexact H3
    isplitl [H4]; · iexists _; iexact H4
    isplitl [H5]; · iexists _; iexact H5
    isplitl [H6]; · iexact H6
    isplitl [HS0]; · iexact HS0
    iintro ⟨H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply l6; iexact H6
    iapply l7; iexact H7

/-- The row of the definitions that the launch calls is the body at the point. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What every final state holds. -/
abbrev POST := Pipeline.FramePost cfgs (dats (F := F) m) 0 (Pipeline.afterTail₀ cfgs (dats m) 0 (V0 m) [hostOps1])

/-- What the launch holds at its start is the invariant before the first point. -/
theorem phi_in (c : Dev nD) : Pipeline.ΦA spec0 c ⊢ ((dats m 0 c).Φ 0 : sProp 𝕄) := by
  dsimp only [dats]
  unfold PHI
  rw [if_pos (by rfl)]

/-- The invariant after the last point gives back what the launch held. -/
theorem phi_out (c : Dev nD) : ((dats m 0 c).Φ (Fin.last cfg0.N) : sProp 𝕄) ⊢ Pipeline.ΦA spec0 c := by
  dsimp only [dats]
  unfold PHI
  rw [if_neg (by rw [Fin.val_last]; exact (by decide : grid0.N ≠ 0)), PhiA_eq]
  iintro ⟨HS, Hg⟩
  isplitl [HS]
  · iexists _; iexact HS
  iexact Hg

set_option backward.isDefEq.respectTransparency.types false in
set_option maxHeartbeats 800000 in
/-- The launch: every weakly fair execution ends, the arrays as the proof data says and every counter at zero. -/
theorem run_main : θ_run defs (onTc (τ := τ) (main (F := F))) (s₀ m ρ) (fun r => POST m r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := phi_in m) (hout := phi_out m)

/-- The ideal kernel's frame: the arguments end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Rank.lean ====
/- The place of an element in the stable descending order of a finite family, and the stable sort read by it. -/
module

public import Idealize.ShloMosaic.Lib.SortFacts
public import Idealize.ShloMosaic.Lib.SortPrefix
public import Mathlib.Data.Fintype.EquivFin
public import Mathlib.Data.Real.Basic

@[expose] public section

noncomputable section

namespace Cert.Hand

open Idealize.ShloMosaic

variable {n : ℕ} {α : Type} [LinearOrder α]

/-- Position `j` comes before position `i` in the stable descending order: greater, or equal and earlier. -/
def Bef (f : Fin n → α) (j i : Fin n) : Prop := f i < f j ∨ (f j = f i ∧ j < i)

/-- Whether a position comes before another can be decided. -/
instance (f : Fin n → α) (j i : Fin n) : Decidable (Bef f j i) := by unfold Bef; infer_instance

/-- No position comes before itself. -/
theorem Bef.irrefl (f : Fin n → α) (i : Fin n) : ¬ Bef f i i := by
  rintro (h | h)
  · exact lt_irrefl _ h
  · exact lt_irrefl _ h.2

/-- The order is transitive. -/
theorem Bef.trans {f : Fin n → α} {a b c : Fin n} (h1 : Bef f a b) (h2 : Bef f b c) : Bef f a c := by
  rcases h1 with h1 | ⟨e1, h1⟩ <;> rcases h2 with h2 | ⟨e2, h2⟩
  · exact Or.inl (h2.trans h1)
  · exact Or.inl (e2 ▸ h1)
  · exact Or.inl (e1 ▸ h2)
  · exact Or.inr ⟨e1.trans e2, h1.trans h2⟩

/-- Of two positions one comes before the other. -/
theorem Bef.total (f : Fin n → α) {a b : Fin n} (h : a ≠ b) : Bef f a b ∨ Bef f b a := by
  rcases lt_trichotomy (f a) (f b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- The place of position `i` in the stable descending order, counted from zero. -/
def drank (f : Fin n → α) (i : Fin n) : ℕ := (Finset.univ.filter fun j => Bef f j i).card

/-- A position before another has the lower place. -/
theorem drank_lt_of_bef {f : Fin n → α} {a b : Fin n} (h : Bef f a b) : drank f a < drank f b := by
  refine Finset.card_lt_card ⟨fun j hj => ?_, fun hs => ?_⟩
  · rw [Finset.mem_filter] at hj ⊢
    exact ⟨hj.1, hj.2.trans h⟩
  · have := hs (Finset.mem_filter.mpr ⟨Finset.mem_univ a, h⟩)
    exact Bef.irrefl f a (Finset.mem_filter.mp this).2

/-- A place is below the length. -/
theorem drank_lt (f : Fin n → α) (i : Fin n) : drank f i < n := by
  have h : (Finset.univ.filter fun j => Bef f j i) ⊂ Finset.univ :=
    ⟨Finset.filter_subset _ _, fun hs => Bef.irrefl f i (Finset.mem_filter.mp (hs (Finset.mem_univ i))).2⟩
  have := Finset.card_lt_card h
  rwa [Finset.card_univ, Fintype.card_fin] at this

/-- Two positions have two places. -/
theorem drank_inj (f : Fin n → α) {a b : Fin n} (h : drank f a = drank f b) : a = b := by
  by_contra hne
  rcases Bef.total f hne with h1 | h1
  · have := drank_lt_of_bef h1; omega
  · have := drank_lt_of_bef h1; omega

/-- The order of the positions is that of their places. -/
theorem bef_iff (f : Fin n → α) (a b : Fin n) : Bef f a b ↔ drank f a < drank f b := by
  refine ⟨drank_lt_of_bef, fun h => ?_⟩
  by_cases e : a = b
  · subst e; omega
  · rcases Bef.total f e with h1 | h1
    · exact h1
    · have := drank_lt_of_bef h1; omega

/-- The places as a bijection of the positions. -/
def place (f : Fin n → α) : Fin n ≃ Fin n :=
  Equiv.ofBijective (fun i => ⟨drank f i, drank_lt f i⟩)
    (Finite.injective_iff_bijective.mp fun a b h => drank_inj f (Fin.mk.inj_iff.mp h))

/-- The place as a position's number. -/
theorem place_val (f : Fin n → α) (i : Fin n) : (place f i).val = drank f i := rfl

/-- The position at place `k`. -/
def at_ (f : Fin n → α) (k : Fin n) : Fin n := (place f).symm k

/-- The position at a place has that place. -/
theorem drank_at (f : Fin n → α) (k : Fin n) : drank f (at_ f k) = k.val := by
  rw [← place_val]; unfold at_; rw [Equiv.apply_symm_apply]

/-- A position is at a place when that is its place. -/
theorem at_eq_iff (f : Fin n → α) (k i : Fin n) : at_ f k = i ↔ drank f i = k.val := by
  constructor
  · rintro rfl; exact drank_at f k
  · intro h; exact drank_inj f ((drank_at f k).trans h.symm)

/-- Insertion sort of an increasing list of positions: a comparator that looks at the keys alone, refined by position. -/
theorem stableSort_refine (B R : Fin n → Fin n → Bool) (h : ∀ a b, a < b → R b a = B b a) :
    ∀ l : List (Fin n), l.Pairwise (· < ·) → stableSort B l = stableSort R l
  | [], _ => rfl
  | a :: l, hl => by
    rw [List.pairwise_cons] at hl
    unfold stableSort
    rw [stableSort_refine B R h l hl.2]
    exact insertBefore_congr B R a _ fun b hb => (h a b (hl.1 b ((perm_stableSort R l).mem_iff.mp hb))).symm

/-- The refined comparator is a strict total order. -/
theorem bef_strict (f : Fin n → α) : StrictTotalBefore fun a b : Fin n => decide (Bef f a b) where
  irrefl a := by simpa using Bef.irrefl f a
  trans a b c h1 h2 := by simp only [decide_eq_true_eq] at *; exact h1.trans h2
  total a b h := by simp only [decide_eq_true_eq]; exact Bef.total f h

/-- A stable sort that puts the greater first takes to position `k` the element whose place is `k`. -/
theorem sortedFrom_eq (f : Fin n → α) (B : Fin n → Fin n → Bool) (hB : ∀ a b, B a b = decide (f b < f a)) (k : Fin n) :
    sortedFrom B k = at_ f k := by
  have e : sortPositions n B = sortPositions n fun a b => decide (Bef f a b) := by
    refine stableSort_refine B _ (fun a b h => ?_) _ (List.pairwise_lt_finRange n)
    rw [hB]
    have hn : ¬ b < a := lt_asymm h
    simp only [Bef, hn, and_false, or_false]
  have e2 : sortedFrom B k = sortedFrom (fun a b => decide (Bef f a b)) k := by
    unfold sortedFrom
    simp only [List.get_eq_getElem, Fin.val_cast]
    congr 1
  rw [e2]
  have := (bef_strict f).sortedFrom_eq_of_prefix le_rfl (at_ f) (place f).symm.injective
    (fun i j hij => by
      rw [decide_eq_false_iff_not, bef_iff, drank_at, drank_at]; exact fun h => absurd (Fin.lt_def.mp hij) (by omega))
    (fun i p hp => absurd ((place f).symm_apply_apply p) (hp (place f p))) k
  exact this

/-- The places depend on the order alone. -/
theorem drank_congr {β : Type} [LinearOrder β] (f : Fin n → α) (g : Fin n → β) (h : ∀ a b, f a < f b ↔ g a < g b) (i : Fin n) :
    drank f i = drank g i := by
  unfold drank
  congr 1
  refine Finset.filter_congr fun j _ => ?_
  have he : f j = f i ↔ g j = g i := by
    rw [eq_iff_le_not_lt, eq_iff_le_not_lt, ← not_lt, ← not_lt, h, h]
  unfold Bef
  rw [h, he]

/-- Rows in the same order have the same positions at their places. -/
theorem at_congr {β : Type} [LinearOrder β] (f : Fin n → α) (g : Fin n → β) (h : ∀ a b, f a < f b ↔ g a < g b) (k : Fin n) :
    at_ f k = at_ g k := by
  rw [at_eq_iff, drank_congr f g h, drank_at]

/-! ## The first of the greatest -/

/-- The position at place zero holds a greatest value and no earlier position holds it. -/
theorem drank_zero_iff (f : Fin n → α) (i : Fin n) : drank f i = 0 ↔ (∀ j, f j ≤ f i) ∧ ∀ j, j < i → f j ≠ f i := by
  unfold drank
  rw [Finset.card_eq_zero, Finset.filter_eq_empty_iff]
  constructor
  · intro h
    refine ⟨fun j => ?_, fun j hj e => ?_⟩
    · by_contra hc; exact h (Finset.mem_univ j) (Or.inl (not_le.mp hc))
    · exact h (Finset.mem_univ j) (Or.inr ⟨e, hj⟩)
  · rintro ⟨h1, h2⟩ j - (h | h)
    · exact absurd (h1 j) (not_le.mpr h)
    · exact h2 j h.2 h.1

/-! ## Selection by a threshold and a prefix of the ties -/

/-- The number of positions whose key is below. -/
def below (f : Fin n → α) (i : Fin n) : ℕ := (Finset.univ.filter fun j => f j < f i).card

/-- The numbers of entries below are in the order of the entries. -/
theorem below_lt_iff (f : Fin n → α) (a b : Fin n) : below f a < below f b ↔ f a < f b := by
  have mono : ∀ a b, f a ≤ f b → below f a ≤ below f b := fun a b h =>
    Finset.card_le_card fun j hj => by
      rw [Finset.mem_filter] at hj ⊢; exact ⟨hj.1, hj.2.trans_le h⟩
  constructor
  · intro h
    by_contra hc
    exact absurd (mono b a (not_lt.mp hc)) (by omega)
  · intro h
    refine Finset.card_lt_card ⟨fun j hj => ?_, fun hs => ?_⟩
    · rw [Finset.mem_filter] at hj ⊢; exact ⟨hj.1, hj.2.trans h⟩
    · have := hs (Finset.mem_filter.mpr ⟨Finset.mem_univ a, h⟩)
      exact lt_irrefl _ (Finset.mem_filter.mp this).2

/-- The number of entries below is less than the length. -/
theorem below_lt (f : Fin n → α) (i : Fin n) : below f i < n := by
  have h : (Finset.univ.filter fun j => f j < f i) ⊂ Finset.univ :=
    ⟨Finset.filter_subset _ _, fun hs => lt_irrefl _ (Finset.mem_filter.mp (hs (Finset.mem_univ i))).2⟩
  have := Finset.card_lt_card h
  rwa [Finset.card_univ, Fintype.card_fin] at this

/-- The number of keys above `t`. -/
def above (g : Fin n → ℕ) (t : ℕ) : ℕ := (Finset.univ.filter fun j => t < g j).card

/-- Fewer entries are above a higher bound. -/
theorem above_anti (g : Fin n → ℕ) {s t : ℕ} (h : s ≤ t) : above g t ≤ above g s :=
  Finset.card_le_card fun j hj => by
    rw [Finset.mem_filter] at hj ⊢; exact ⟨hj.1, h.trans_lt hj.2⟩

/-- With a threshold that fewer than `K` keys exceed and at least `K` reach, the first `K` places are the keys above it and
    the earliest of those at it. -/
theorem select_iff (g : Fin n → ℕ) (K t : ℕ) (h1 : above g t < K) (h2 : K ≤ (Finset.univ.filter fun j => t ≤ g j).card) (i : Fin n) :
    (t < g i ∨ (g i = t ∧ (Finset.univ.filter fun j : Fin n => j ≤ i ∧ g j = t).card + above g t ≤ K)) ↔ drank g i < K := by
  rcases lt_trichotomy (g i) t with h | h | h
  · have hle : (Finset.univ.filter fun j => t ≤ g j).card ≤ drank g i :=
      Finset.card_le_card fun j hj => by
        rw [Finset.mem_filter] at hj ⊢; exact ⟨hj.1, Or.inl (h.trans_le hj.2)⟩
    constructor
    · rintro (h' | h')
      · omega
      · omega
    · intro h'; omega
  · have e : drank g i = above g t + (Finset.univ.filter fun j : Fin n => j < i ∧ g j = t).card := by
      unfold drank above
      rw [← Finset.card_union_of_disjoint]
      · congr 1
        ext j
        simp only [Finset.mem_filter, Finset.mem_univ, true_and, Finset.mem_union, Bef, h]
        tauto
      · rw [Finset.disjoint_filter]; rintro j - hj ⟨-, hj'⟩; omega
    have e2 : (Finset.univ.filter fun j : Fin n => j ≤ i ∧ g j = t).card = (Finset.univ.filter fun j : Fin n => j < i ∧ g j = t).card + 1 := by
      rw [← Finset.card_insert_of_notMem (a := i) (by simp)]
      congr 1
      ext j
      simp only [Finset.mem_filter, Finset.mem_univ, true_and, Finset.mem_insert]
      constructor
      · rintro ⟨h3, h4⟩
        rcases eq_or_lt_of_le h3 with h5 | h5
        · exact Or.inl h5
        · exact Or.inr ⟨h5, h4⟩
      · rintro (rfl | ⟨h3, h4⟩)
        · exact ⟨le_rfl, h⟩
        · exact ⟨h3.le, h4⟩
    rw [e, e2]
    constructor
    · rintro (h' | h')
      · omega
      · omega
    · intro h'; exact Or.inr ⟨h, by omega⟩
  · refine ⟨fun _ => ?_, fun _ => Or.inl h⟩
    refine lt_of_le_of_lt (Finset.card_le_card fun j hj => ?_) h1
    rw [Finset.mem_filter] at hj ⊢
    rcases hj.2 with h' | h'
    · exact ⟨hj.1, h.trans h'⟩
    · exact ⟨hj.1, h'.1 ▸ h⟩

/-- One step of the bisection on natural numbers. -/
def bstep (g : Fin n → ℕ) (K : ℕ) (a : ℕ × ℕ) : ℕ × ℕ :=
  let mid := a.1 + (a.2 - a.1) / 2
  if K ≤ above g mid then (mid + 1, a.2) else (a.1, mid)

/-- What a bisection state says: the bounds in order, at least `K` keys reach the lower, fewer than `K` exceed the upper. -/
def BInv (g : Fin n → ℕ) (K : ℕ) (a : ℕ × ℕ) : Prop :=
  a.1 ≤ a.2 ∧ K ≤ (Finset.univ.filter fun j => a.1 ≤ g j).card ∧ above g a.2 < K

/-- A step of the bisection keeps the bracket, halves it, and does not raise its end. -/
theorem bstep_inv (g : Fin n → ℕ) (K : ℕ) (a : ℕ × ℕ) (h : BInv g K a) :
    BInv g K (bstep g K a) ∧ (bstep g K a).2 - (bstep g K a).1 ≤ (a.2 - a.1) / 2 ∧ (bstep g K a).2 ≤ a.2 ∧ a.1 ≤ (bstep g K a).1 := by
  obtain ⟨h1, h2, h3⟩ := h
  unfold bstep
  by_cases c : K ≤ above g (a.1 + (a.2 - a.1) / 2)
  · have hlt : a.1 + (a.2 - a.1) / 2 < a.2 := by
      by_contra hc
      have : a.1 + (a.2 - a.1) / 2 = a.2 := by omega
      rw [this] at c; omega
    simp only [c, if_true]
    refine ⟨⟨by omega, ?_, h3⟩, by omega, le_rfl, by omega⟩
    exact c
  · simp only [c, if_false]
    exact ⟨⟨by omega, h2, not_le.mp c⟩, by omega, by omega, le_rfl⟩

end Cert.Hand

end
-- ==== Proof.Words.lean ====
/- Small facts on words that carry natural numbers, and on sums of real numbers read as extended reals. -/
module

public import Idealize.ShloMosaic.Lib.WordCmp
public import Idealize.ShloMosaic.Lib.IndicatorCount
public import Idealize.ShloMosaic.Lib.Pointwise.Tactic

@[expose] public section

noncomputable section

namespace Cert.Hand

open Idealize.ShloMosaic

/-- A choice by a truth value's word. -/
theorem sel_ofBool {α : Type} (p : Prop) [Decidable p] (a b : α) : Scalar.select (BitVec.ofBool (decide p)) a b = if p then a else b := by
  unfold Scalar.select
  by_cases h : p <;> simp [h]

/-- A truth value's word is one when it holds. -/
theorem ofBool_eq_one (p : Prop) [Decidable p] : BitVec.ofBool (decide p) = 1#1 ↔ p := by
  by_cases h : p <;> simp [h]

/-- Both of two truth values, in words. -/
theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- Either of two truth values, in words. -/
theorem ori_ofBool (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]

/-- A count of a condition's bits, as a word. -/
theorem count_word {ι : Type} [Fintype ι] (p : ι → Prop) [DecidablePred p] :
    Finset.fold IntOp.addi (0#32) (fun x => BitVec.setWidth 32 (BitVec.ofBool (decide (p x)))) Finset.univ
      = BitVec.ofNat 32 (Finset.univ.filter p).card := by
  rw [IndicatorCount.fold_addi_setWidth_eq_card]
  congr 2
  exact Finset.filter_congr fun x _ => ofBool_eq_one (p x)

/-- A truth value widened to a word of 32 bits. -/
theorem setWidth_ofBool (p : Prop) [Decidable p] : BitVec.setWidth 32 (BitVec.ofBool (decide p)) = BitVec.ofNat 32 (if p then 1 else 0) := by
  by_cases h : p <;> simp [h]

/-- A small number read as a real from its word. -/
theorem sitofp_nat (n : ℕ) (h : n < 2 ^ 31) : FloatOps.sitofp (F := Ideal) .f32 (BitVec.ofNat 32 n) = ((n : ℝ) : EReal) := by
  have e : (BitVec.ofNat 32 n).toInt = n := by
    rw [BitVec.toInt_eq_toNat_of_lt (by rw [BitVec.toNat_ofNat]; omega), BitVec.toNat_ofNat]
    congr 1; omega
  show (((BitVec.ofNat 32 n).toInt : ℝ) : EReal) = _
  rw [e]; norm_cast

/-- The bit of a condition, read as a number. -/
theorem sitofp_bit (p : Prop) [Decidable p] :
    FloatOps.sitofp (F := Ideal) .f32 (BitVec.setWidth 32 (BitVec.ofBool (decide p))) = ((if p then 1 else 0 : ℝ) : EReal) := by
  rw [setWidth_ofBool, sitofp_nat _ (by split <;> omega)]
  by_cases h : p <;> simp [h]

/-- A least word of a family of words that carry naturals. -/
theorem fold_minsi {ι : Type} (g : ι → ℕ) (hg : ∀ i, g i < 2 ^ 31) (S : Finset ι) (hS : S.Nonempty) :
    ∃ i ∈ S, S.fold IntOp.minsi (2147483647#32) (fun x => BitVec.ofNat 32 (g x)) = BitVec.ofNat 32 (g i) ∧ ∀ j ∈ S, g i ≤ g j := by
  classical
  have key : ∀ S : Finset ι, (S = ∅ ∧ S.fold IntOp.minsi (2147483647#32) (fun x => BitVec.ofNat 32 (g x)) = 2147483647#32) ∨
      ∃ i ∈ S, S.fold IntOp.minsi (2147483647#32) (fun x => BitVec.ofNat 32 (g x)) = BitVec.ofNat 32 (g i) ∧ ∀ j ∈ S, g i ≤ g j := by
    intro S
    induction S using Finset.induction_on with
    | empty => exact Or.inl ⟨rfl, rfl⟩
    | insert a S ha ih =>
      refine Or.inr ?_
      have hlt : ∀ a b : ℕ, a < 2 ^ 31 → b < 2 ^ 31 → ((BitVec.ofNat 32 a).slt (BitVec.ofNat 32 b) = true ↔ a < b) := fun a b h1 h2 => by
        rw [BitVec.slt_iff_toInt_lt, BitVec.toInt_eq_toNat_of_lt (by rw [BitVec.toNat_ofNat]; omega),
          BitVec.toInt_eq_toNat_of_lt (by rw [BitVec.toNat_ofNat]; omega), BitVec.toNat_ofNat, BitVec.toNat_ofNat]
        omega
      rcases ih with ⟨rfl, h⟩ | ⟨i, hi, h, hm⟩
      · refine ⟨a, Finset.mem_insert_self _ _, ?_, fun j hj => by simp at hj; rw [hj]⟩
        rw [Finset.fold_insert ha, h]
        unfold IntOp.minsi
        split
        · rfl
        · next hc =>
          rw [show (2147483647#32) = BitVec.ofNat 32 2147483647 from rfl, hlt _ _ (hg a) (by omega)] at hc
          have := hg a
          rw [show g a = 2147483647 by omega]
      · rw [Finset.fold_insert ha, h]
        unfold IntOp.minsi
        by_cases hc : g a < g i
        · rw [if_pos ((hlt _ _ (hg a) (hg i)).mpr hc)]
          refine ⟨a, Finset.mem_insert_self _ _, rfl, fun j hj => ?_⟩
          rcases Finset.mem_insert.mp hj with rfl | hj
          · exact le_rfl
          · exact hc.le.trans (hm j hj)
        · rw [if_neg (fun h' => hc ((hlt _ _ (hg a) (hg i)).mp h'))]
          refine ⟨i, Finset.mem_insert_of_mem hi, rfl, fun j hj => ?_⟩
          rcases Finset.mem_insert.mp hj with rfl | hj
          · exact not_lt.mp hc
          · exact hm j hj
  rcases key S with ⟨h, -⟩ | h
  · exact absurd h hS.ne_empty
  · exact h

/-- A greatest word of a family of words that carry naturals. -/
theorem fold_maxsi {ι : Type} (g : ι → ℕ) (hg : ∀ i, g i < 2 ^ 31) (S : Finset ι) (hS : S.Nonempty) :
    ∃ i ∈ S, S.fold IntOp.maxsi (2147483648#32) (fun x => BitVec.ofNat 32 (g x)) = BitVec.ofNat 32 (g i) ∧ ∀ j ∈ S, g j ≤ g i := by
  classical
  have key : ∀ S : Finset ι, (S = ∅ ∧ S.fold IntOp.maxsi (2147483648#32) (fun x => BitVec.ofNat 32 (g x)) = 2147483648#32) ∨
      ∃ i ∈ S, S.fold IntOp.maxsi (2147483648#32) (fun x => BitVec.ofNat 32 (g x)) = BitVec.ofNat 32 (g i) ∧ ∀ j ∈ S, g j ≤ g i := by
    intro S
    have ht : ∀ a : ℕ, a < 2 ^ 31 → (BitVec.ofNat 32 a).toInt = a := fun a h1 => by
      rw [BitVec.toInt_eq_toNat_of_lt (by rw [BitVec.toNat_ofNat]; omega), BitVec.toNat_ofNat]
      omega
    induction S using Finset.induction_on with
    | empty => exact Or.inl ⟨rfl, rfl⟩
    | insert a S ha ih =>
      refine Or.inr ?_
      rcases ih with ⟨rfl, h⟩ | ⟨i, hi, h, hm⟩
      · refine ⟨a, Finset.mem_insert_self _ _, ?_, fun j hj => by simp at hj; rw [hj]⟩
        rw [Finset.fold_insert ha, h]
        unfold IntOp.maxsi
        rw [if_pos]
        rw [BitVec.slt_iff_toInt_lt, ht _ (hg a)]
        have : (2147483648#32).toInt = -2147483648 := by decide
        rw [this]; omega
      · rw [Finset.fold_insert ha, h]
        unfold IntOp.maxsi
        by_cases hc : g i < g a
        · rw [if_pos (by rw [BitVec.slt_iff_toInt_lt, ht _ (hg a), ht _ (hg i)]; omega)]
          refine ⟨a, Finset.mem_insert_self _ _, rfl, fun j hj => ?_⟩
          rcases Finset.mem_insert.mp hj with rfl | hj
          · exact le_rfl
          · exact (hm j hj).trans hc.le
        · rw [if_neg (by rw [BitVec.slt_iff_toInt_lt, ht _ (hg a), ht _ (hg i)]; omega)]
          refine ⟨i, Finset.mem_insert_of_mem hi, rfl, fun j hj => ?_⟩
          rcases Finset.mem_insert.mp hj with rfl | hj
          · exact not_lt.mp hc
          · exact hm j hj
  rcases key S with ⟨h, -⟩ | h
  · exact absurd h hS.ne_empty
  · exact h

/-- A sum of real numbers, read as extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A count as a sum of the condition's bits. -/
theorem sum_bit {ι : Type} [Fintype ι] (p : ι → Prop) [DecidablePred p] :
    (∑ i, (if p i then 1 else 0 : ℝ)) = ((Finset.univ.filter p).card : ℝ) := by
  rw [Finset.sum_boole]

/-- Small numbers with one word are equal. -/
theorem ofNat_inj {a b : ℕ} (ha : a < 2 ^ 31) (hb : b < 2 ^ 31) (h : BitVec.ofNat 32 a = BitVec.ofNat 32 b) : a = b := by
  have := congrArg BitVec.toNat h
  rw [BitVec.toNat_ofNat, BitVec.toNat_ofNat] at this
  omega

/-- Division rounded down, as the programs spell it on words. -/
def fdiv (d w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt d 0#32)) (Scalar.extui (Scalar.cmpi .slt d 0#32))))
      (IntOp.cmpi .ne (IntOp.remsi .vector w d) 0#32))
    (IntOp.subi (IntOp.divsi .vector w d) 1#32) (IntOp.divsi .vector w d)

/-- Floor division of a position by 24. -/
theorem fdiv_24 : ∀ i : Fin 576, fdiv 24#32 (BitVec.ofNat 32 i.val) = BitVec.ofNat 32 (i.val / 24) := by decide +kernel
/-- Floor division of a row by 32. -/
theorem fdiv_32 : ∀ i : Fin 256, fdiv 32#32 (BitVec.ofNat 32 i.val) = BitVec.ofNat 32 (i.val / 32) := by decide +kernel
/-- The rest of a position by 24. -/
theorem fmod_24 : ∀ i : Fin 576, IntOp.subi (BitVec.ofNat 32 i.val) (IntOp.muli (BitVec.ofNat 32 (i.val / 24)) 24#32) = BitVec.ofNat 32 (i.val % 24) := by decide +kernel

/-- The conversion of a whole number to a word. -/
theorem fptosi_nat (n : ℕ) (h : n < 2 ^ 31) : Ideal.fptosi 32 ((n : ℝ) : EReal) = BitVec.ofNat 32 n := by
  rw [Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num at h ⊢; omega
  rw [this, BitVec.ofInt_natCast]

end Cert.Hand

end
-- ==== Proof.KSel.lean ====
/- The kernel's selection mask: the bisection on ranks, and the prefix of the ties, mark the first 84 places of every row. -/
module

public import proofs.«01_k».proof.Proof.Spec
public import proofs.«01_k».proof.Proof.Rank
public import proofs.«01_k».proof.Proof.Words
public import Idealize.ShloMosaic.Lib.Pointwise

@[expose] public section

set_option maxRecDepth 16384

noncomputable section

namespace Cert.KernelIdeal.Hand

open Idealize.ShloMosaic Idealize.ShloMosaic.TcCoe Idealize.ShloMosaic.WordCmp Cert.Hand
open Cert.KernelIdeal.Gen

/-- One row of the scores. -/
def row (x0 : Vec Ideal S256x576 .f32) (r : Fin 256) : Fin 576 → EReal := fun i => x0 (ix2 r i)

variable (x0 : Vec Ideal S256x576 .f32) (r : Fin 256)

/-- The rank word of every entry: how many entries of its row are below it. -/
theorem p6 (i : Fin 576) : k0_pay6 x0 (ix2 r i) = BitVec.ofNat 32 (below (row x0 r) i) := by
  unfold k0_pay6 k0_pay5
  pointwise
  exact count_word (fun x => x0 (ix2 r x) < x0 (ix2 r i))

/-- A rank fits a signed word. -/
theorem below31 (i : Fin 576) : below (row x0 r) i < 2 ^ 31 := by
  have := below_lt (row x0 r) i; omega

/-- All ranks are at least zero, so the bracket starts on the side of the nonnegative ones. -/
theorem p7 : k0_pay7 x0 (ix2 r 0) = 1#1 := by
  unfold k0_pay7
  pointwise
  simp only [p6]
  have e : ∀ x : Fin 576, IntOp.cmpi CmpIPredicate.sge (BitVec.ofNat 32 (below (row x0 r) x)) 0#32 = BitVec.ofBool (decide (0 ≤ below (row x0 r) x)) := fun x =>
    cmpi_sge_ofNat (w := 32) (a := below (row x0 r) x) (b := 0) (below31 x0 r x) (by norm_num)
  simp only [e, count_word (fun x : Fin 576 => 0 ≤ below (row x0 r) x)]
  simp
  decide

/-- The lower end of the first bracket is a rank of the row, and none is less. -/
theorem p8 : ∃ l, k0_pay8 x0 (ix2 r 0) = BitVec.ofNat 32 l ∧ l < 576 ∧ ∀ i, l ≤ below (row x0 r) i := by
  unfold k0_pay8
  pointwise
  rw [p7]
  simp only [p6]
  obtain ⟨i, -, h, hm⟩ := fold_minsi (fun x => below (row x0 r) x) (below31 x0 r) Finset.univ ⟨0, Finset.mem_univ _⟩
  refine ⟨below (row x0 r) i, ?_, below_lt _ i, fun j => hm j (Finset.mem_univ j)⟩
  rw [h]
  show IntOp.maxsi _ _ = _
  unfold IntOp.maxsi
  have := below31 x0 r i
  have ht : (BitVec.ofNat 32 (below (row x0 r) i)).toInt = below (row x0 r) i := by
    rw [BitVec.toInt_eq_toNat_of_lt (by rw [BitVec.toNat_ofNat]; omega), BitVec.toNat_ofNat]
    omega
  split
  · rfl
  · next hc =>
    rw [BitVec.slt_iff_toInt_lt, ht] at hc
    have h0 : below (row x0 r) i = 0 := by
      by_contra hne
      apply hc
      show (0 : ℤ) < (below (row x0 r) i : ℤ)
      omega
    rw [h0]

/-- The upper end of the first bracket is a rank of the row, and none is greater. -/
theorem p9 : ∃ h, k0_pay9 x0 (ix2 r 0) = BitVec.ofNat 32 h ∧ h < 576 ∧ ∀ i, below (row x0 r) i ≤ h := by
  unfold k0_pay9
  pointwise
  rw [p7]
  simp only [p6]
  obtain ⟨i, -, h, hm⟩ := fold_maxsi (fun x => below (row x0 r) x) (below31 x0 r) Finset.univ ⟨0, Finset.mem_univ _⟩
  refine ⟨below (row x0 r) i, ?_, below_lt _ i, fun j => hm j (Finset.mem_univ j)⟩
  rw [h]
  rfl

/-- The words of a bisection state on naturals below the row's length. -/
structure Words (a : IVec S256x1 32 × IVec S256x1 32) (s : ℕ × ℕ) : Prop where
  lo : a.1 (ix2 r 0) = BitVec.ofNat 32 s.1
  hi : a.2 (ix2 r 0) = BitVec.ofNat 32 s.2
  lt : s.2 < 576

/-- A bracket's words from its two ends. -/
theorem Words.pair (a b : IVec S256x1 32) (l h : ℕ) (ha : a (ix2 r 0) = BitVec.ofNat 32 l) (hb : b (ix2 r 0) = BitVec.ofNat 32 h) (hl : h < 576) :
    Words r (a, b) (l, h) := ⟨ha, hb, hl⟩

/-- The middle of a bracket, in words and in numbers. -/
theorem mid_word (l h : ℕ) (h1 : l ≤ h) (h2 : h < 576) :
    IntOp.addi (BitVec.ofNat 32 l) (IntOp.shrsi ArithUnit.vector (IntOp.subi (BitVec.ofNat 32 h) (BitVec.ofNat 32 l)) 1#32)
      = BitVec.ofNat 32 (l + (h - l) / 2) := by
  have e : IntOp.subi (BitVec.ofNat 32 h) (BitVec.ofNat 32 l) = BitVec.ofNat 32 (h - l) := by
    apply BitVec.eq_of_toNat_eq
    unfold IntOp.subi
    rw [BitVec.toNat_sub, BitVec.toNat_ofNat, BitVec.toNat_ofNat, BitVec.toNat_ofNat]
    omega
  have e2 : IntOp.shrsi ArithUnit.vector (BitVec.ofNat 32 (h - l)) 1#32 = BitVec.ofNat 32 ((h - l) / 2) := by
    have : ∀ n : Fin 576, IntOp.shrsi ArithUnit.vector (BitVec.ofNat 32 n.val) 1#32 = BitVec.ofNat 32 (n.val / 2) := by decide +kernel
    exact this ⟨h - l, by omega⟩
  rw [e, e2]
  exact (BitVec.ofNat_add _ _).symm

/-- One step of the bisection, in words and in numbers. -/
theorem step_words (a b : IVec S256x1 32) (s : ℕ × ℕ) (hw : Words r (a, b) s) (hs : BInv (below (row x0 r)) 84 s) :
    Words r (k0_pay12 x0 a b, k0_pay13 x0 a b) (bstep (below (row x0 r)) 84 s) := by
  have ha : a (ix2 r 0) = BitVec.ofNat 32 s.1 := hw.lo
  have hb : b (ix2 r 0) = BitVec.ofNat 32 s.2 := hw.hi
  have h5 := hw.lt
  have hm : s.1 + (s.2 - s.1) / 2 < 576 := by have := hs.1; omega
  have e : ∀ x : Fin 576, IntOp.cmpi CmpIPredicate.sgt (BitVec.ofNat 32 (below (row x0 r) x)) (BitVec.ofNat 32 (s.1 + (s.2 - s.1) / 2))
      = BitVec.ofBool (decide (s.1 + (s.2 - s.1) / 2 < below (row x0 r) x)) := fun x =>
    cmpi_sgt_ofNat (below31 x0 r x) (by omega)
  have hab : above (below (row x0 r)) (s.1 + (s.2 - s.1) / 2) ≤ 576 := by
    refine (Finset.card_le_univ _).trans ?_
    rw [Fintype.card_fin]
  have key : IntOp.cmpi CmpIPredicate.sge (BitVec.ofNat 32 (above (below (row x0 r)) (s.1 + (s.2 - s.1) / 2))) 84#32
      = BitVec.ofBool (decide (84 ≤ above (below (row x0 r)) (s.1 + (s.2 - s.1) / 2))) :=
    cmpi_sge_ofNat (w := 32) (b := 84) (by omega) (by norm_num)
  have hr := (bstep_inv _ _ _ hs).2.2.1
  have hlt : (bstep (below (row x0 r)) 84 s).2 < 576 := by omega
  refine Words.pair r (k0_pay12 x0 a b) (k0_pay13 x0 a b) (bstep (below (row x0 r)) 84 s).1 (bstep (below (row x0 r)) 84 s).2 ?_ ?_ hlt
  · unfold k0_pay12 k0_pay11 k0_pay10
    pointwise
    rw [ha, hb, mid_word _ _ hs.1 h5]
    simp only [p6, e, count_word (fun x : Fin 576 => s.1 + (s.2 - s.1) / 2 < below (row x0 r) x)]
    refine (congrArg (fun c => Scalar.select c _ _) key).trans ?_
    rw [sel_ofBool]
    unfold bstep
    by_cases c : 84 ≤ above (below (row x0 r)) (s.1 + (s.2 - s.1) / 2)
    · simp only [c, if_true]; exact (BitVec.ofNat_add _ _).symm
    · simp only [c, if_false]
  · unfold k0_pay13 k0_pay11 k0_pay10
    pointwise
    rw [ha, hb, mid_word _ _ hs.1 h5]
    simp only [p6, e, count_word (fun x : Fin 576 => s.1 + (s.2 - s.1) / 2 < below (row x0 r) x)]
    refine (congrArg (fun c => Scalar.select c _ _) key).trans ?_
    rw [sel_ofBool]
    unfold bstep
    by_cases c : 84 ≤ above (below (row x0 r)) (s.1 + (s.2 - s.1) / 2)
    · simp only [c, if_true]
    · simp only [c, if_false]

/-- Halving once and then `k` times is halving `k + 1` times. -/
theorem half_pow (a b d k : ℕ) (h : a ≤ b / 2) : a / 2 ^ k ≤ b / 2 ^ (k + 1) := by
  rw [pow_succ', ← Nat.div_div_eq_div_mul]
  exact Nat.div_le_div_right h

/-- The bisection from a state that brackets the threshold keeps bracketing it, and halves the bracket at every trip. -/
theorem fold_words {β : Type} (L : List β) (a : IVec S256x1 32 × IVec S256x1 32) (s : ℕ × ℕ) (hw : Words r a s) (hs : BInv (below (row x0 r)) 84 s) :
    ∃ s' : ℕ × ℕ, Words r (L.foldl (fun (a : IVec S256x1 32 × IVec S256x1 32) (_ : β) => (k0_pay12 x0 a.1 a.2, k0_pay13 x0 a.1 a.2)) a) s'
      ∧ BInv (below (row x0 r)) 84 s' ∧ s'.2 - s'.1 ≤ (s.2 - s.1) / 2 ^ L.length := by
  induction L generalizing a s with
  | nil => exact ⟨s, hw, hs, by simp⟩
  | cons b L ih =>
    obtain ⟨s', h1, h2, h3⟩ := ih (k0_pay12 x0 a.1 a.2, k0_pay13 x0 a.1 a.2) (bstep (below (row x0 r)) 84 s) (step_words x0 r a.1 a.2 s hw hs) (bstep_inv _ _ _ hs).1
    rw [List.foldl_cons]
    exact ⟨s', h1, h2, h3.trans (half_pow _ _ 0 L.length (bstep_inv _ _ _ hs).2.1)⟩

/-- The threshold: fewer than 84 entries of the row rank above it and at least 84 reach it. -/
theorem thr_word : ∃ t : ℕ, thr x0 (ix2 r 0) = BitVec.ofNat 32 t ∧ t < 576 ∧ above (below (row x0 r)) t < 84
    ∧ 84 ≤ (Finset.univ.filter fun j => t ≤ below (row x0 r) j).card := by
  obtain ⟨l, hl, hl5, hlm⟩ := p8 x0 r
  obtain ⟨h, hh, hh5, hhm⟩ := p9 x0 r
  have hinv : BInv (below (row x0 r)) 84 (l, h) := by
    refine ⟨(hlm 0).trans (hhm 0), ?_, ?_⟩
    · rw [Finset.filter_true_of_mem fun j _ => hlm j, Finset.card_univ, Fintype.card_fin]; norm_num
    · unfold above
      rw [Finset.filter_false_of_mem fun j _ => not_lt.mpr (hhm j)]; simp
  unfold thr bis
  rw [Scf.fold_eq]
  obtain ⟨s, h1, h2, h3⟩ := fold_words x0 r (List.finRange k0_t1_loop.trips) (k0_pay8 x0, k0_pay9 x0) (l, h) (Words.pair r _ _ _ _ hl hh hh5) hinv
  rw [List.length_finRange] at h3
  have h4 : (h - l) / 2 ^ k0_t1_loop.trips = 0 := by
    apply Nat.div_eq_of_lt
    have : k0_t1_loop.trips = 31 := by decide
    rw [this]
    calc h - l < 576 := by omega
      _ < 2 ^ 31 := by norm_num
  have h5 : s.1 = s.2 := by
    have := h2.1
    have h3' : s.2 - s.1 ≤ (h - l) / 2 ^ k0_t1_loop.trips := h3
    omega
  have hlt := h1.lt
  exact ⟨s.1, h1.lo, by omega, h5 ▸ h2.2.2, h2.2.1⟩

/-- Whether a rank is above the threshold. -/
theorem p14 (t : ℕ) (a : IVec S256x1 32) (ht : a (ix2 r 0) = BitVec.ofNat 32 t) (h5 : t < 576) (i : Fin 576) :
    k0_pay14 x0 a (ix2 r i) = BitVec.ofBool (decide (t < below (row x0 r) i)) := by
  unfold k0_pay14
  pointwise
  rw [ht, p6]
  exact cmpi_sgt_ofNat (below31 x0 r i) (by omega)

/-- How many ranks of a row are above the threshold. -/
theorem p15 (t : ℕ) (a : IVec S256x1 32) (ht : a (ix2 r 0) = BitVec.ofNat 32 t) (h5 : t < 576) :
    k0_pay15 x0 a (ix2 r 0) = BitVec.ofNat 32 (above (below (row x0 r)) t) := by
  unfold k0_pay15
  pointwise
  simp only [p14 x0 r t a ht h5]
  exact count_word (fun x : Fin 576 => t < below (row x0 r) x)

/-- Whether a rank is the threshold. -/
theorem p16 (t : ℕ) (a : IVec S256x1 32) (ht : a (ix2 r 0) = BitVec.ofNat 32 t) (h5 : t < 576) (i : Fin 576) :
    k0_pay16 x0 a (ix2 r i) = BitVec.ofBool (decide (below (row x0 r) i = t)) := by
  unfold k0_pay16
  pointwise
  rw [ht, p6]
  exact cmpi_eq_ofNat (by have := below31 x0 r i; omega) (by omega)

/-- How many entries up to a position rank at the threshold. -/
theorem p17 (t : ℕ) (a : IVec S256x1 32) (ht : a (ix2 r 0) = BitVec.ofNat 32 t) (h5 : t < 576) (i : Fin 576) :
    k0_pay17 x0 a (ix2 r i) = (((Finset.univ.filter fun j : Fin 576 => j ≤ i ∧ below (row x0 r) j = t).card : ℝ) : EReal) := by
  unfold k0_pay17
  pointwise
  simp only [p16 x0 r t a ht h5]
  have e : ∀ x : Fin 576, IntOp.cmpi CmpIPredicate.sle (BitVec.ofNat 32 x.val) (BitVec.ofNat 32 i.val) = BitVec.ofBool (decide (x ≤ i)) := fun x => by
    rw [cmpi_sle_ofNat (by omega) (by omega)]; rfl
  simp only [e, sitofp_bit, ← EReal.coe_mul, ← coe_sum]
  rw [← sum_bit]
  congr 1
  refine Finset.sum_congr rfl fun x _ => ?_
  by_cases h1 : x ≤ i <;> by_cases h2 : below (row x0 r) x = t <;> simp [h1, h2]

/-- The selection mask marks the entries among the first 84 places of their row, ties by position. -/
theorem sel (i : Fin 576) : c57 x0 (ix2 r i) = BitVec.ofBool (decide (drank (row x0 r) i < 84)) := by
  obtain ⟨t, ht, h5, h1, h2⟩ := thr_word x0 r
  unfold c57 k0_pay18
  pointwise
  rw [p14 x0 r t _ ht h5, p15 x0 r t _ ht h5, p16 x0 r t _ ht h5, p17 x0 r t _ ht h5]
  have e : IntOp.subi (84#32) (BitVec.ofNat 32 (above (below (row x0 r)) t)) = BitVec.ofNat 32 (84 - above (below (row x0 r)) t) := by
    apply BitVec.eq_of_toNat_eq
    unfold IntOp.subi
    rw [BitVec.toNat_sub, BitVec.toNat_ofNat, BitVec.toNat_ofNat]
    rw [BitVec.toNat_ofNat]
    omega
  rw [e, sitofp_nat _ (by omega), Hand.andi_ofBool, Hand.ori_ofBool]
  congr 1
  rw [decide_eq_decide, EReal.coe_le_coe_iff, Nat.cast_le]
  have hk := select_iff (below (row x0 r)) 84 t h1 h2 i
  have hd : drank (below (row x0 r)) i = drank (row x0 r) i := drank_congr _ _ (below_lt_iff (row x0 r)) i
  rw [← hd, ← hk]
  constructor
  · rintro (h | ⟨h, h'⟩)
    · exact Or.inl h
    · exact Or.inr ⟨h, by omega⟩
  · rintro (h | ⟨h, h'⟩)
    · exact Or.inl h
    · exact Or.inr ⟨h, by omega⟩

end Cert.KernelIdeal.Hand

end
-- ==== Proof.Math.lean ====
/- The mathematics the kernel and the reference share, on real numbers: the selection, the weights of the patches, the anchor, the
   relative coordinates, the two graph layers at the anchor, and the order of the patches by their smoothed counts. -/
module

public import proofs.«01_k».proof.Proof.Rank
public import proofs.«01_k».proof.Proof.Words
public import Idealize.ShloMosaic.PureOps.Ideal

@[expose] public section

noncomputable section

namespace Cert.Hand

open Idealize.ShloMosaic

/-- The scores of one batch: a row per head. -/
abbrev Sc := Fin 32 → Fin 576 → ℝ

/-- The factor of the entries left out, and the slope below zero, as the programs' constants hold them. -/
def α7 : ℝ := 11744051 / 16777216
/-- The slope below zero of the leaky layers, as its word holds it. -/
def α2 : ℝ := 13421773 / 67108864
/-- The reciprocal of the constant the angle is divided by. -/
def qpi : ℝ := 4194304 / 13176795

/-- The word of the factor 0.7. -/
theorem bits_α7 : Ideal.ofBits .f32 1060320051#32 = ((α7 : ℝ) : EReal) := by
  unfold α7; simp [Ideal.ofBits, Ideal.ieee, -EReal.coe_mul]; norm_num
/-- The word of the slope 0.2. -/
theorem bits_α2 : Ideal.ofBits .f32 1045220557#32 = ((α2 : ℝ) : EReal) := by
  unfold α2; simp [Ideal.ofBits, Ideal.ieee, -EReal.coe_mul]; norm_num
/-- The word of π is the inverse of `qpi`. -/
theorem bits_pi : Ideal.ofBits .f32 1078530011#32 = ((qpi⁻¹ : ℝ) : EReal) := by
  unfold qpi; simp [Ideal.ofBits, Ideal.ieee, -EReal.coe_mul]; norm_num
/-- The word of 2. -/
theorem bits_2 : Ideal.ofBits .f32 1073741824#32 = ((2 : ℝ) : EReal) := by
  simp [Ideal.ofBits, Ideal.ieee, -EReal.coe_mul]; norm_num
/-- The word of 4. -/
theorem bits_4 : Ideal.ofBits .f32 1082130432#32 = ((4 : ℝ) : EReal) := by
  simp [Ideal.ofBits, Ideal.ieee, -EReal.coe_mul]; norm_num
/-- The word of 1/2. -/
theorem bits_half : Ideal.ofBits .f32 1056964608#32 = ((1 / 2 : ℝ) : EReal) := by
  simp [Ideal.ofBits, Ideal.ieee, -EReal.coe_mul]; norm_num
/-- The word of 24. -/
theorem bits_24 : Ideal.ofBits .f32 1103101952#32 = ((24 : ℝ) : EReal) := by
  simp [Ideal.ofBits, Ideal.ieee, -EReal.coe_mul]; norm_num
/-- The word of 32. -/
theorem bits_32 : Ideal.ofBits .f32 1107296256#32 = ((32 : ℝ) : EReal) := by
  simp [Ideal.ofBits, Ideal.ieee, -EReal.coe_mul]; norm_num
/-- The word of 1/32. -/
theorem bits_inv32 : Ideal.ofBits .f32 1023410176#32 = ((1 / 32 : ℝ) : EReal) := by
  simp [Ideal.ofBits, Ideal.ieee, -EReal.coe_mul]; norm_num
/-- The word of 576. -/
theorem bits_576 : Ideal.ofBits .f32 1141899264#32 = ((576 : ℝ) : EReal) := by
  simp [Ideal.ofBits, Ideal.ieee, -EReal.coe_mul]; norm_num

/-- Division of reals by a nonzero one, among the extended reals. -/
theorem div_real {y : ℝ} (h : y ≠ 0) (x : ℝ) : Ideal.div (x : EReal) (y : EReal) = ((x / y : ℝ) : EReal) := by
  rw [Ideal.div_coe h, ← EReal.coe_mul]; congr 1; ring

/-- The angle of a point, on reals. -/
def at2 (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

/-- The angle of two reals, among the extended reals. -/
theorem atan2_coe (y x : ℝ) : Ideal.atan2 (y : EReal) (x : EReal) = ((at2 y x : ℝ) : EReal) := rfl

/-- The root of a real that is not negative, among the extended reals. -/
theorem sqrt_real {r : ℝ} (h : 0 ≤ r) : Ideal.sqrt (r : EReal) = ((Real.sqrt r : ℝ) : EReal) := by
  rw [Ideal.sqrt_coe, if_neg (not_lt.mpr h)]

/-- A choice of two reals, among the extended reals. -/
theorem coe_ite (p : Prop) [Decidable p] (a b : ℝ) : (if p then (a : EReal) else (b : EReal)) = ((if p then a else b : ℝ) : EReal) := by
  by_cases h : p <;> simp [h]

/-- The greater of two reals, among the extended reals. -/
theorem max_coe (a b : ℝ) : max (a : EReal) (b : EReal) = ((max a b : ℝ) : EReal) := (EReal.coe_strictMono.monotone.map_max).symm

/-! ## The quantities -/

variable (s : Sc)

/-- Whether an entry is among the first 84 places of its head's row. -/
def sel (c : Fin 32) (i : Fin 576) : Prop := drank (s c) i < 84
/-- Whether an entry is selected can be decided. -/
instance (c : Fin 32) (i : Fin 576) : Decidable (sel s c i) := by unfold sel; infer_instance

/-- The score, scaled down where it is not selected. -/
def ns (c : Fin 32) (i : Fin 576) : ℝ := if sel s c i then s c i else s c i * α7
/-- The sum of the scaled scores over the heads. -/
def ms (i : Fin 576) : ℝ := ∑ c, ns s c i
/-- Their mean over the heads: the weight of a position. -/
def pw (i : Fin 576) : ℝ := ms s i / 32
/-- The mean of the sums over the positions. -/
def th : ℝ := (∑ i, ms s i) / 576
/-- The weight where its sum is above the mean, and zero elsewhere. -/
def mv (i : Fin 576) : ℝ := if th s < ms s i then pw s i else 0
/-- The anchor: the first position of the greatest masked weight. -/
def anc : Fin 576 := at_ (mv s) 0
/-- The offset from the anchor in grid rows. -/
def relI (i : Fin 576) : ℝ := (((i.val / 24 : ℕ) : ℝ) - ((anc s).val / 24 : ℕ)) / 24
/-- The offset from the anchor in grid columns. -/
def relJ (i : Fin 576) : ℝ := (((i.val % 24 : ℕ) : ℝ) - ((anc s).val % 24 : ℕ)) / 24
/-- The distance from the anchor. -/
def rd (i : Fin 576) : ℝ := Real.sqrt (relI s i * relI s i + relJ s i * relJ s i)
/-- The angle from the anchor, scaled to the unit interval. -/
def ra (i : Fin 576) : ℝ := (at2 (relJ s i) (relI s i) * qpi + 1) / 2
/-- The weighted sum of the distances. -/
def sa : ℝ := ∑ i, pw s i * rd s i
/-- The weighted sum of the angles. -/
def sb : ℝ := ∑ i, pw s i * ra s i
/-- The sum of the squares of the positive weights. -/
def pp : ℝ := ∑ i, if 0 < pw s i then pw s i * pw s i else 0
/-- The sum of the squares of the negative weights. -/
def pn : ℝ := ∑ i, if pw s i < 0 then pw s i * pw s i else 0

/-- The slope below zero. -/
def lk (v : ℝ) : ℝ := if 0 ≤ v then v else α2 * v

variable (W1 : Fin 2 → Fin 512 → ℝ) (W2 : Fin 512 → Fin 768 → ℝ)

/-- The weighted sums times the first weight matrix. -/
def uu (j : Fin 512) : ℝ := sa s * W1 0 j + sb s * W1 1 j
/-- The second layer with the row's own weight drawn out. -/
def gv (d : Fin 768) : ℝ := ∑ j, ((if 0 < uu s W1 j then pp s else pn s) * uu s W1 j) * W2 j d
/-- The structure row of the batch. -/
def addRow (d : Fin 768) : ℝ := lk (pw s (anc s) * gv s W1 W2 d)

/-- How many heads select a position. -/
def cnt (i : Fin 576) : ℕ := (Finset.univ.filter fun c : Fin 32 => sel s c i).card
/-- The weights 2, 1 of a shift by none and by one. -/
def tw (a b : ℕ) : ℕ := if a = b then 2 else if a + 1 = b ∨ b + 1 = a then 1 else 0
/-- The smoothed counts. -/
def sm (i : Fin 576) : ℕ := ∑ q : Fin 576, cnt s q * (tw (q.val / 24) (i.val / 24) * tw (q.val % 24) (i.val % 24))
/-- The patch at place `k`. -/
def pat (k : Fin 576) : Fin 576 := at_ (sm s) k

/-! ## The rank-one graph layers -/

/-- Above zero the slope changes nothing. -/
theorem lk_pos (v : ℝ) : max (lk v) 0 = max v 0 := by
  unfold lk
  split
  · rfl
  · next h =>
    have h' : v < 0 := not_le.mp h
    have h2 : α2 * v < 0 := mul_neg_of_pos_of_neg (by unfold α2; norm_num) h'
    rw [max_eq_right h2.le, max_eq_right h'.le]

/-- One entry of the second layer's product, with the rank-one adjacency drawn out. -/
theorem relu_row (U : ℝ) : ∑ x, pw s x * max (lk (pw s x * U)) 0 = (if 0 < U then pp s else pn s) * U := by
  have e : ∀ x, pw s x * max (lk (pw s x * U)) 0 = (if 0 < U then (if 0 < pw s x then pw s x * pw s x else 0) else (if pw s x < 0 then pw s x * pw s x else 0)) * U := fun x => by
    rw [lk_pos]
    by_cases hU : 0 < U
    · rw [if_pos hU]
      by_cases hp : 0 < pw s x
      · rw [if_pos hp, max_eq_left (mul_pos hp hU).le]; ring
      · rw [if_neg hp, max_eq_right (mul_nonpos_of_nonpos_of_nonneg (not_lt.mp hp) hU.le)]; ring
    · rw [if_neg hU]
      by_cases hp : pw s x < 0
      · rw [if_pos hp, max_eq_left (mul_nonneg_of_nonpos_of_nonpos hp.le (not_lt.mp hU))]; ring
      · rw [if_neg hp, max_eq_right (mul_nonpos_of_nonneg_of_nonpos (not_lt.mp hp) (not_lt.mp hU))]; ring
  rw [Finset.sum_congr rfl fun x _ => e x, ← Finset.sum_mul]
  congr 1
  by_cases hU : 0 < U
  · simp only [hU, if_true]; rfl
  · simp only [hU, if_false]; rfl

/-- The first layer before its slope. -/
theorem layer1 (i : Fin 576) (j : Fin 512) :
    ∑ x, (pw s i * pw s x) * (rd s x * W1 0 j + ra s x * W1 1 j) = pw s i * uu s W1 j := by
  unfold uu sa sb
  rw [Finset.sum_mul, Finset.sum_mul, ← Finset.sum_add_distrib, Finset.mul_sum]
  exact Finset.sum_congr rfl fun x _ => by ring

/-- The second layer before its slope. -/
theorem layer2 (i : Fin 576) (d : Fin 768) :
    ∑ x, (pw s i * pw s x) * ∑ j, max (lk (pw s x * uu s W1 j)) 0 * W2 j d = pw s i * gv s W1 W2 d := by
  unfold gv
  have e : ∀ j, ((if 0 < uu s W1 j then pp s else pn s) * uu s W1 j) * W2 j d = ∑ x, pw s x * max (lk (pw s x * uu s W1 j)) 0 * W2 j d := fun j => by
    rw [← relu_row, Finset.sum_mul]
  rw [Finset.sum_congr rfl fun j _ => e j, Finset.sum_comm, Finset.mul_sum]
  refine Finset.sum_congr rfl fun x _ => ?_
  rw [Finset.mul_sum, Finset.mul_sum]
  exact Finset.sum_congr rfl fun j _ => by ring

/-- A sum over the rows of one batch, as a sum of all rows with the batch's bit. -/
theorem sum_block (f : Fin 256 → ℝ) (b : Fin 8) :
    (∑ r : Fin 256, (if r.val / 32 = b.val then 1 else 0 : ℝ) * f r) = ∑ c : Fin 32, f ⟨b.val * 32 + c.val, by omega⟩ := by
  rw [← Fintype.sum_equiv (finProdFinEquiv (m := 8) (n := 32)) (fun p => (if p.1 = b then 1 else 0 : ℝ) * f ⟨p.1.val * 32 + p.2.val, by omega⟩)
    (fun r => (if r.val / 32 = b.val then 1 else 0 : ℝ) * f r)]
  · rw [Fintype.sum_prod_type]
    rw [Finset.sum_eq_single b]
    · simp
    · intro x _ hx; simp [hx]
    · intro h; exact absurd (Finset.mem_univ b) h
  · rintro ⟨p, c⟩
    have e1 : (finProdFinEquiv (p, c) : Fin (8 * 32)).val = c.val + 32 * p.val := rfl
    have e2 : (finProdFinEquiv (p, c) : Fin (8 * 32)).val / 32 = p.val := by rw [e1]; omega
    have e3 : (⟨p.val * 32 + c.val, by omega⟩ : Fin 256) = finProdFinEquiv (p, c) := Fin.ext (by rw [e1]; show p.val * 32 + c.val = _; omega)
    simp only [e2, e3, Fin.val_inj]

/-! ## The smoothed counts as nine shifted reads -/

/-- A function on 24 positions, read one further along with zeros outside. -/
def shd (g : Fin 24 → ℝ) (k : ℕ) : ℝ := if h : 1 ≤ k ∧ k - 1 < 24 then g ⟨k - 1, h.2⟩ else 0

/-- A sum that picks the one entry before `k` is the shifted read. -/
theorem sum_shd (g : Fin 24 → ℝ) (k : ℕ) : (∑ p : Fin 24, if p.val + 1 = k then g p else 0) = shd g k := by
  unfold shd
  split
  · next h =>
    rw [Finset.sum_eq_single ⟨k - 1, h.2⟩]
    · rw [if_pos (by show k - 1 + 1 = k; omega)]
    · intro b _ hb
      rw [if_neg fun e => hb (Fin.ext (by show b.val = k - 1; omega))]
    · intro h'; exact absurd (Finset.mem_univ _) h'
  · next h =>
    exact Finset.sum_eq_zero fun p _ => if_neg fun e => h (by omega)

/-- One axis of the smoothing. -/
theorem sum_tw (g : Fin 24 → ℝ) (u : ℕ) : (∑ p : Fin 24, (tw p.val u : ℝ) * g p) = shd g u + 2 * shd g (1 + u) + shd g (2 + u) := by
  rw [← sum_shd, ← sum_shd, ← sum_shd, Finset.mul_sum, ← Finset.sum_add_distrib, ← Finset.sum_add_distrib]
  refine Finset.sum_congr rfl fun p _ => ?_
  unfold tw
  by_cases h1 : p.val = u
  · simp [h1, show ¬(u + 1 = 2 + u) by omega, show (u + 1 = 1 + u) by omega]
  · by_cases h2 : p.val + 1 = u
    · simp [h1, h2, show ¬(u = 1 + u) by omega, show ¬(u = 2 + u) by omega]
    · by_cases h3 : u + 1 = p.val
      · simp [h1, h2, h3, show ¬(p.val + 1 = 1 + u) by omega, show (p.val + 1 = 2 + u) by omega]
      · simp [h1, h2, h3, show ¬(p.val + 1 = 1 + u) by omega, show ¬(p.val + 1 = 2 + u) by omega]

/-- The counts on the grid with a border of zeros. -/
def pad2 (u v : ℕ) : ℝ := if h : (1 ≤ u ∧ u - 1 < 24) ∧ 1 ≤ v ∧ v - 1 < 24 then (cnt s ⟨(u - 1) * 24 + (v - 1), by omega⟩ : ℝ) else 0

/-- The grid with its border is the read shifted along both axes. -/
theorem pad2_eq (u v : ℕ) : pad2 s u v = shd (fun p => shd (fun q => (cnt s ⟨p.val * 24 + q.val, by omega⟩ : ℝ)) v) u := by
  unfold pad2 shd
  by_cases h1 : 1 ≤ u ∧ u - 1 < 24 <;> by_cases h2 : 1 ≤ v ∧ v - 1 < 24 <;> simp [h1, h2]

/-- A sum over the positions by grid rows and columns. -/
theorem sum_grid (f : Fin 576 → ℝ) : (∑ q, f q) = ∑ p : Fin 24, ∑ q : Fin 24, f ⟨p.val * 24 + q.val, by omega⟩ := by
  rw [← Fintype.sum_prod_type' (f := fun (p q : Fin 24) => f ⟨p.val * 24 + q.val, by omega⟩)]
  refine (Fintype.sum_equiv (finProdFinEquiv (m := 24) (n := 24)) _ f ?_).symm
  rintro ⟨p, c⟩
  have e1 : (finProdFinEquiv (p, c) : Fin (24 * 24)).val = c.val + 24 * p.val := rfl
  congr 1
  exact Fin.ext (by rw [e1]; show p.val * 24 + c.val = _; omega)

/-- The smoothed count of a position: the nine weighted reads of the padded grid. -/
theorem sm_nine (i : Fin 576) :
    ((sm s i : ℕ) : ℝ) = pad2 s (i.val / 24) (i.val % 24) + 2 * pad2 s (i.val / 24) (1 + i.val % 24) + pad2 s (i.val / 24) (2 + i.val % 24)
      + 2 * pad2 s (1 + i.val / 24) (i.val % 24) + 4 * pad2 s (1 + i.val / 24) (1 + i.val % 24) + 2 * pad2 s (1 + i.val / 24) (2 + i.val % 24)
      + pad2 s (2 + i.val / 24) (i.val % 24) + 2 * pad2 s (2 + i.val / 24) (1 + i.val % 24) + pad2 s (2 + i.val / 24) (2 + i.val % 24) := by
  have e : ((sm s i : ℕ) : ℝ) = ∑ p : Fin 24, (tw p.val (i.val / 24) : ℝ) * ∑ q : Fin 24, (tw q.val (i.val % 24) : ℝ) * (cnt s ⟨p.val * 24 + q.val, by omega⟩ : ℝ) := by
    unfold sm
    push_cast
    rw [sum_grid]
    refine Finset.sum_congr rfl fun p _ => ?_
    rw [Finset.mul_sum]
    refine Finset.sum_congr rfl fun q _ => ?_
    have h1 : (p.val * 24 + q.val) / 24 = p.val := by omega
    have h2 : (p.val * 24 + q.val) % 24 = q.val := by omega
    simp only [h1, h2]; ring
  have e2 : ∀ p : Fin 24, (∑ q : Fin 24, (tw q.val (i.val % 24) : ℝ) * (cnt s ⟨p.val * 24 + q.val, by omega⟩ : ℝ))
      = shd (fun q => (cnt s ⟨p.val * 24 + q.val, by omega⟩ : ℝ)) (i.val % 24) + 2 * shd (fun q => (cnt s ⟨p.val * 24 + q.val, by omega⟩ : ℝ)) (1 + i.val % 24)
        + shd (fun q => (cnt s ⟨p.val * 24 + q.val, by omega⟩ : ℝ)) (2 + i.val % 24) := fun p =>
    sum_tw (fun q => (cnt s ⟨p.val * 24 + q.val, by omega⟩ : ℝ)) _
  rw [e, Finset.sum_congr rfl fun p _ => congrArg ((tw p.val (i.val / 24) : ℝ) * ·) (e2 p)]
  refine (sum_tw _ _).trans ?_
  simp only [pad2_eq]
  have lin : ∀ (f g h : Fin 24 → ℝ) (k : ℕ), shd (fun p => f p + 2 * g p + h p) k = shd f k + 2 * shd g k + shd h k := fun f g h k => by
    unfold shd; split <;> ring
  rw [lin, lin, lin]
  ring

/-! ## The order of the patches by one distinct key -/

/-- The smoothed count and the position in one number. -/
def key8 (i : Fin 576) : ℕ := sm s i * 576 + (575 - i.val)

/-- Keys are ordered by the count, and equal counts by the earlier position. -/
theorem key8_lt (a b i j : ℕ) (hi : i < 576) (hj : j < 576) :
    a * 576 + (575 - i) < b * 576 + (575 - j) ↔ a < b ∨ (b = a ∧ j < i) := by
  omega

/-- The number of larger keys is the place in the stable order. -/
theorem key8_rank (i : Fin 576) : (Finset.univ.filter fun j => key8 s i < key8 s j).card = drank (sm s) i := by
  unfold drank
  exact congrArg Finset.card <| Finset.filter_congr fun j _ => key8_lt (sm s i) (sm s j) i.val j.val i.isLt j.isLt

/-- A choice by an order of real numbers read as extended ones. -/
theorem if_lt (p q a b : ℝ) : (if ((p : ℝ) : EReal) < ((q : ℝ) : EReal) then ((a : ℝ) : EReal) else ((b : ℝ) : EReal)) = ((if p < q then a else b : ℝ) : EReal) := by
  simp only [EReal.coe_lt_coe_iff, coe_ite]

/-- The same for the weak order. -/
theorem if_le (p q a b : ℝ) : (if ((p : ℝ) : EReal) ≤ ((q : ℝ) : EReal) then ((a : ℝ) : EReal) else ((b : ℝ) : EReal)) = ((if p ≤ q then a else b : ℝ) : EReal) := by
  simp only [EReal.coe_le_coe_iff, coe_ite]

end Cert.Hand

end
-- ==== Proof.KVal.lean ====
/- The kernel's first grid point on finite scores: the structure row of every batch is the row of the shared mathematics. -/
module

public import proofs.«01_k».proof.Proof.KSel
public import proofs.«01_k».proof.Proof.Math

@[expose] public section

set_option maxRecDepth 16384

noncomputable section

namespace Cert.KernelIdeal.Hand

open Idealize.ShloMosaic Idealize.ShloMosaic.TcCoe Idealize.ShloMosaic.WordCmp Cert.Hand
open Cert.KernelIdeal.Gen

/-- The scores' block holds the real scores, a row per batch and head. -/
def Scores (x0 : Vec Ideal S256x576 .f32) (s : Fin 8 → Sc) : Prop :=
  ∀ (r : Fin 256) (i : Fin 576), x0 (ix2 r i) = ((s ⟨r.val / 32, by omega⟩ ⟨r.val % 32, by omega⟩ i : ℝ) : EReal)

variable {x0 : Vec Ideal S256x576 .f32} {s : Fin 8 → Sc} (hx : Scores x0 s)

/-- Row `b * 32 + c` of the scores is that of batch `b` and head `c`. -/
theorem at_block {α : Type} (f : Fin 8 → Fin 32 → α) (b : Fin 8) (c : Fin 32) :
    f ⟨(⟨b.val * 32 + c.val, by omega⟩ : Fin 256).val / 32, by omega⟩ ⟨(⟨b.val * 32 + c.val, by omega⟩ : Fin 256).val % 32, by omega⟩ = f b c := by
  have e1 : (⟨(⟨b.val * 32 + c.val, by omega⟩ : Fin 256).val / 32, by omega⟩ : Fin 8) = b := Fin.ext (by show (b.val * 32 + c.val) / 32 = _; omega)
  have e2 : (⟨(⟨b.val * 32 + c.val, by omega⟩ : Fin 256).val % 32, by omega⟩ : Fin 32) = c := Fin.ext (by show (b.val * 32 + c.val) % 32 = _; omega)
  rw [e1, e2]

/-- The matrix that sums a batch's heads: one where the row is the batch's. -/
theorem v19 (b : Fin 8) (r : Fin 256) : k0_pay19 (F := Ideal) (ix2 b r) = ((if r.val / 32 = b.val then 1 else 0 : ℝ) : EReal) := by
  unfold k0_pay19
  pointwise
  simp only [← fdiv.eq_1]
  rw [fdiv_32, cmpi_eq_ofNat (by omega) (by omega), sitofp_bit]

include hx in
/-- The selection mask, by batch and head. -/
theorem v57 (r : Fin 256) (i : Fin 576) :
    c57 x0 (ix2 r i) = BitVec.ofBool (decide (Cert.Hand.sel (s ⟨r.val / 32, by omega⟩) ⟨r.val % 32, by omega⟩ i)) := by
  rw [Hand.sel x0 r i]
  congr 1
  rw [decide_eq_decide]
  unfold Cert.Hand.sel
  rw [drank_congr (row x0 r) (s ⟨r.val / 32, by omega⟩ ⟨r.val % 32, by omega⟩) (fun a b => by
    unfold row; rw [hx r a, hx r b, EReal.coe_lt_coe_iff]) i]

/-- The scores as loaded. -/
theorem p5 (r : Fin 256) (i : Fin 576) : k0_pay5 x0 (ix2 r i) = x0 (ix2 r i) := by
  unfold k0_pay5
  pointwise

include hx in
/-- The sum of a batch's scaled scores over its heads. -/
theorem v92 (b : Fin 8) (i : Fin 576) : c92 x0 (ix2 b i) = ((ms (s b) i : ℝ) : EReal) := by
  unfold c92 k0_pay20
  pointwise
  have e : ∀ r : Fin 256, k0_pay19 (F := Ideal) (ix2 b r) *
        Scalar.select
          (k0_pay18 (k0_pay14 x0 (thr x0)) (k0_pay15 x0 (thr x0)) (k0_pay16 x0 (thr x0)) (k0_pay17 x0 (thr x0)) (ix2 r i))
          (k0_pay5 x0 (ix2 r i)) (k0_pay5 x0 (ix2 r i) * Ideal.ofBits FTy.f32 1060320051#32)
      = (((if r.val / 32 = b.val then 1 else 0 : ℝ) * ns (s ⟨r.val / 32, by omega⟩) ⟨r.val % 32, by omega⟩ i : ℝ) : EReal) := fun r => by
    have h57 := v57 hx r i
    unfold c57 at h57
    rw [h57, v19, p5, hx r i, sel_ofBool, bits_α7, ← EReal.coe_mul, coe_ite, ← EReal.coe_mul]
    rfl
  rw [Finset.sum_congr rfl fun r _ => e r, ← coe_sum, sum_block]
  congr 1
  unfold ms
  exact Finset.sum_congr rfl fun c _ => at_block (fun b c => ns (s b) c i) b c

/-- The mean over the heads is the sum times 1/32, written out. -/
theorem g94 (v7 : FVec Ideal S256x576 .f32) (v35 : IVec S256x576 1) (v38 : IVec S256x1 32) (v40 : IVec S256x576 1) (v50 : FVec Ideal S256x576 .f32) (b : Fin 8) (i : Fin 576) :
    k0_pay21 v7 v35 v38 v40 v50 (ix2 b i) = k0_pay20 v7 v35 v38 v40 v50 (ix2 b i) * Ideal.ofBits FTy.f32 1023410176#32 := by
  unfold k0_pay21
  pointwise

include hx in
/-- The mean over the heads. -/
theorem v94 (b : Fin 8) (i : Fin 576) : c94 x0 (ix2 b i) = ((pw (s b) i : ℝ) : EReal) := by
  have h := v92 hx b i
  unfold c92 at h
  unfold c94
  rw [g94, h, bits_inv32, ← EReal.coe_mul]
  unfold pw
  congr 1; ring

include hx in
/-- The total of a batch's sums. -/
theorem v96 (b : Fin 8) : c96 x0 (ix2 b 0) = ((∑ i, ms (s b) i : ℝ) : EReal) := by
  unfold c96 k0_pay22
  pointwise
  have h := v92 hx b
  unfold c92 at h
  rw [Finset.sum_congr rfl fun i _ => h i, ← coe_sum]

/-- The anchor, written out: the least position whose masked mean is the greatest one. -/
theorem g111 (v92 v94 : FVec Ideal S8x576 .f32) (v96 : FVec Ideal S8x1 .f32) (r : Fin 8) : k0_pay24 v92 v94 v96 k0_pay23 (ix2 r 0) =
    Finset.fold IntOp.minsi (2147483647#32)
      (fun x : Fin 576 =>
        if (if Ideal.div (v96 (ix2 r 0)) (Ideal.ofBits FTy.f32 1141899264#32) < v92 (ix2 r x) then v94 (ix2 r x) else 0) =
              Finset.fold max (Ideal.ofBits FTy.f32 4286578688#32)
                (fun x : Fin 576 => if Ideal.div (v96 (ix2 r 0)) (Ideal.ofBits FTy.f32 1141899264#32) < v92 (ix2 r x) then v94 (ix2 r x) else 0)
                Finset.univ then BitVec.ofNat 32 x.val else 576#32)
      Finset.univ := by
  unfold k0_pay24 k0_pay23
  pointwise

/-- The word of minus infinity is the least extended real. -/
theorem bits_ninf : Ideal.ofBits FTy.f32 4286578688#32 = ⊥ := by
  simp [Ideal.ofBits, Ideal.ieee]

/-- A greatest real entry, as a fold of the larger of two from below everything. -/
theorem fold_max_at (f : Fin 576 → ℝ) : Finset.fold max (⊥ : EReal) (fun x => ((f x : ℝ) : EReal)) Finset.univ = ((f (at_ f 0) : ℝ) : EReal) := by
  have h := (drank_zero_iff f (at_ f 0)).mp (drank_at f 0)
  apply le_antisymm
  · rw [Finset.fold_max_le]
    exact ⟨bot_le, fun x _ => EReal.coe_le_coe_iff.mpr (h.1 x)⟩
  · rw [Finset.le_fold_max]
    exact Or.inr ⟨_, Finset.mem_univ _, le_rfl⟩

/-- The first position of the greatest entry, as the least position word among those that hold it. -/
theorem fold_first (f : Fin 576 → ℝ) :
    Finset.fold IntOp.minsi (2147483647#32) (fun x : Fin 576 => if ((f x : ℝ) : EReal) = ((f (at_ f 0) : ℝ) : EReal) then BitVec.ofNat 32 x.val else 576#32) Finset.univ
      = BitVec.ofNat 32 (at_ f 0).val := by
  have h := (drank_zero_iff f (at_ f 0)).mp (drank_at f 0)
  have e : ∀ x : Fin 576, (if ((f x : ℝ) : EReal) = ((f (at_ f 0) : ℝ) : EReal) then BitVec.ofNat 32 x.val else 576#32)
      = BitVec.ofNat 32 (if f x = f (at_ f 0) then x.val else 576) := fun x => by
    simp only [EReal.coe_eq_coe_iff]; split <;> rfl
  rw [show (fun x : Fin 576 => if ((f x : ℝ) : EReal) = ((f (at_ f 0) : ℝ) : EReal) then BitVec.ofNat 32 x.val else 576#32)
      = fun x : Fin 576 => BitVec.ofNat 32 (if f x = f (at_ f 0) then x.val else 576) from funext e]
  obtain ⟨i, -, hi, hm⟩ := fold_minsi (fun x : Fin 576 => if f x = f (at_ f 0) then x.val else 576) (fun x => by
    split <;> omega) Finset.univ ⟨0, Finset.mem_univ _⟩
  rw [hi]
  have h1 := hm (at_ f 0) (Finset.mem_univ _)
  rw [if_pos rfl] at h1
  have hlt := (at_ f 0).isLt
  by_cases hc : f i = f (at_ f 0)
  · rw [if_pos hc] at h1 ⊢
    rcases Nat.lt_or_ge i.val (at_ f 0).val with h2 | h2
    · exact absurd hc (h.2 i h2)
    · rw [Nat.le_antisymm h1 h2]
  · rw [if_neg hc] at h1; omega

include hx in
/-- The anchor's position. -/
theorem v111 (b : Fin 8) : c111 x0 (ix2 b 0) = BitVec.ofNat 32 (anc (s b)).val := by
  unfold c111
  rw [g111, v96 hx, bits_576, div_real (by norm_num), bits_ninf]
  have e : ∀ x, (if (((∑ i, ms (s b) i) / 576 : ℝ) : EReal) < c92 x0 (ix2 b x) then c94 x0 (ix2 b x) else 0) = ((mv (s b) x : ℝ) : EReal) := fun x => by
    rw [v92 hx, v94 hx]
    exact if_lt _ _ _ 0
  simp only [e, fold_max_at]
  exact fold_first (mv (s b))

include hx in
/-- The anchor's grid row. -/
theorem v135 (b : Fin 8) : c135 x0 (ix2 b 0) = BitVec.ofNat 32 ((anc (s b)).val / 24) := by
  have h := v111 hx b
  unfold c111 at h
  unfold c135 k0_pay25
  pointwise
  simp only [← fdiv.eq_1]
  rw [h, fdiv_24]

include hx in
/-- The anchor's grid column. -/
theorem v138 (b : Fin 8) : c138 x0 (ix2 b 0) = BitVec.ofNat 32 ((anc (s b)).val % 24) := by
  have h := v111 hx b
  have h' := v135 hx b
  unfold c111 at h
  unfold c135 at h'
  unfold c138 k0_pay26
  pointwise
  rw [h, h', fmod_24]

/-- The grid row of a position. -/
theorem v29 (b : Fin 8) (i : Fin 576) : k0_pay29 c103 24#32 k0_pay27 k0_pay28 (ix2 b i) = BitVec.ofNat 32 (i.val / 24) := by
  unfold k0_pay29 k0_pay27 k0_pay28 c103
  pointwise
  simp only [← fdiv.eq_1]
  rw [fdiv_24]

/-- The first named constant is 1/24. -/
theorem named_inv24 : (Named.named κ "inv24" 1026206379#32 : Ideal .f32) = ((24⁻¹ : ℝ) : EReal) := rfl
/-- The second named constant is the reciprocal of the constant the reference divides by. -/
theorem named_invpi : (Named.named κ "invpi" 1050868099#32 : Ideal .f32) = ((qpi : ℝ) : EReal) := rfl

include hx in
/-- A position's offset from the anchor in grid rows. -/
theorem v30 (b : Fin 8) (i : Fin 576) : k0_pay30 (F := Ideal) c103 (c135 x0) 24#32 k0_pay27 k0_pay28 (ix2 b i) = ((relI (s b) i : ℝ) : EReal) := by
  unfold k0_pay30
  pointwise
  rw [v29, v135 hx, sitofp_nat _ (by omega), sitofp_nat _ (by omega), named_inv24, ← EReal.coe_sub, ← EReal.coe_mul]
  rfl

include hx in
/-- A position's offset from the anchor in grid columns. -/
theorem v31 (b : Fin 8) (i : Fin 576) : k0_pay31 (F := Ideal) c103 (c138 x0) 24#32 k0_pay27 k0_pay28 (ix2 b i) = ((relJ (s b) i : ℝ) : EReal) := by
  have h := v29 b i
  unfold c103 at h
  unfold k0_pay31 c103
  pointwise
  rw [h, v138 hx, fmod_24, sitofp_nat _ (by omega), sitofp_nat _ (by omega), named_inv24, ← EReal.coe_sub, ← EReal.coe_mul]
  rfl

include hx in
/-- A position's angle from the anchor, scaled to the unit interval. -/
theorem v188 (b : Fin 8) (i : Fin 576) : c188 x0 (ix2 b i) = ((ra (s b) i : ℝ) : EReal) := by
  unfold c188 k0_pay32
  pointwise
  rw [v30 hx, v31 hx, named_invpi, atan2_coe, bits_half, ← EReal.coe_mul, show (1 : EReal) = ((1 : ℝ) : EReal) from rfl, ← EReal.coe_add, ← EReal.coe_mul]
  unfold ra
  congr 1; ring

/-- The weighted sum of the distances, written out. -/
theorem g191 (v94 : FVec Ideal S8x576 .f32) (v135 v138 : IVec S8x1 32) (r : Fin 8) : k0_pay33 (F := Ideal) v94 c103 v135 v138 24#32 k0_pay27 k0_pay28 (ix2 r 0) =
    ∑ x : Fin 576, v94 (ix2 r x) * Ideal.sqrt
      (k0_pay30 (F := Ideal) c103 v135 24#32 k0_pay27 k0_pay28 (ix2 r x) * k0_pay30 (F := Ideal) c103 v135 24#32 k0_pay27 k0_pay28 (ix2 r x)
        + k0_pay31 (F := Ideal) c103 v138 24#32 k0_pay27 k0_pay28 (ix2 r x) * k0_pay31 (F := Ideal) c103 v138 24#32 k0_pay27 k0_pay28 (ix2 r x)) := by
  unfold k0_pay33
  pointwise

include hx in
/-- The weighted sum of the distances. -/
theorem v191 (b : Fin 8) : c191 x0 (ix2 b 0) = ((sa (s b) : ℝ) : EReal) := by
  unfold c191
  rw [g191]
  have e : ∀ x, c94 x0 (ix2 b x) * Ideal.sqrt
      (k0_pay30 (F := Ideal) c103 (c135 x0) 24#32 k0_pay27 k0_pay28 (ix2 b x) * k0_pay30 (F := Ideal) c103 (c135 x0) 24#32 k0_pay27 k0_pay28 (ix2 b x)
        + k0_pay31 (F := Ideal) c103 (c138 x0) 24#32 k0_pay27 k0_pay28 (ix2 b x) * k0_pay31 (F := Ideal) c103 (c138 x0) 24#32 k0_pay27 k0_pay28 (ix2 b x))
      = ((pw (s b) x * rd (s b) x : ℝ) : EReal) := fun x => by
    rw [v30 hx, v31 hx, v94 hx, ← EReal.coe_mul, ← EReal.coe_mul, ← EReal.coe_add, sqrt_real (add_nonneg (mul_self_nonneg _) (mul_self_nonneg _)), ← EReal.coe_mul]
    rfl
  rw [Finset.sum_congr rfl fun x _ => e x, ← coe_sum]
  rfl

/-- The product with the second weight, written out. -/
theorem g227 (v94 v188 : FVec Ideal S8x576 .f32) (v191 : FVec Ideal S8x1 .f32) (w0 w1 : Vec Ideal S1x512 .f32) (x2 : Vec Ideal S512x768 .f32) (r : Fin 8) (d : Fin 768) :
    k0_pay34 v94 v188 v191 w0 w1 x2 (ix2 r d) =
    ∑ x : Fin 512,
      (if 0 < v191 (ix2 r 0) * w0 (ix2 0 x) + (∑ x : Fin 576, v94 (ix2 r x) * v188 (ix2 r x)) * w1 (ix2 0 x) then
            ∑ x : Fin 576, if 0 < v94 (ix2 r x) then v94 (ix2 r x) * v94 (ix2 r x) else 0
          else ∑ x : Fin 576, if v94 (ix2 r x) < 0 then v94 (ix2 r x) * v94 (ix2 r x) else 0) *
          (v191 (ix2 r 0) * w0 (ix2 0 x) + (∑ x : Fin 576, v94 (ix2 r x) * v188 (ix2 r x)) * w1 (ix2 0 x)) *
        x2 (ix2 x d) := by
  unfold k0_pay34
  pointwise

/-- The first row of the first weight. -/
theorem gw0 (x1 : Vec Ideal S2x512 .f32) (d : Fin 512) : w0 x1 (ix2 0 d) = x1 (ix2 0 d) := by
  unfold w0
  pointwise
/-- The second row of the first weight. -/
theorem gw1 (x1 : Vec Ideal S2x512 .f32) (d : Fin 512) : w1 x1 (ix2 0 d) = x1 (ix2 1 d) := by
  unfold w1
  pointwise

variable {x1 : Vec Ideal S2x512 .f32} {x2 : Vec Ideal S512x768 .f32} {W1 : Fin 2 → Fin 512 → ℝ} {W2 : Fin 512 → Fin 768 → ℝ}
variable (h1 : ∀ i j, x1 (ix2 i j) = ((W1 i j : ℝ) : EReal)) (h2 : ∀ i j, x2 (ix2 i j) = ((W2 i j : ℝ) : EReal))

include hx h1 h2 in
/-- The product with the second weight is that of the shared mathematics. -/
theorem v227 (b : Fin 8) (d : Fin 768) : c227 x0 x1 x2 (ix2 b d) = ((gv (s b) W1 W2 d : ℝ) : EReal) := by
  unfold c227
  rw [g227]
  have eb : (∑ x : Fin 576, c94 x0 (ix2 b x) * c188 x0 (ix2 b x)) = ((sb (s b) : ℝ) : EReal) := by
    rw [Finset.sum_congr rfl fun x _ => by rw [v94 hx, v188 hx, ← EReal.coe_mul], ← coe_sum]; rfl
  have ep : (∑ x : Fin 576, if 0 < c94 x0 (ix2 b x) then c94 x0 (ix2 b x) * c94 x0 (ix2 b x) else 0) = ((pp (s b) : ℝ) : EReal) := by
    rw [Finset.sum_congr rfl fun x _ => show _ = (((if 0 < pw (s b) x then pw (s b) x * pw (s b) x else 0) : ℝ) : EReal) by rw [v94 hx, ← EReal.coe_mul]; exact if_lt _ _ _ _, ← coe_sum]; rfl
  have en : (∑ x : Fin 576, if c94 x0 (ix2 b x) < 0 then c94 x0 (ix2 b x) * c94 x0 (ix2 b x) else 0) = ((pn (s b) : ℝ) : EReal) := by
    rw [Finset.sum_congr rfl fun x _ => show _ = (((if pw (s b) x < 0 then pw (s b) x * pw (s b) x else 0) : ℝ) : EReal) by rw [v94 hx, ← EReal.coe_mul]; exact if_lt _ _ _ _, ← coe_sum]; rfl
  rw [eb, ep, en, v191 hx]
  have e : ∀ j : Fin 512, (if 0 < ((sa (s b) : ℝ) : EReal) * w0 x1 (ix2 0 j) + ((sb (s b) : ℝ) : EReal) * w1 x1 (ix2 0 j) then ((pp (s b) : ℝ) : EReal) else ((pn (s b) : ℝ) : EReal)) *
          (((sa (s b) : ℝ) : EReal) * w0 x1 (ix2 0 j) + ((sb (s b) : ℝ) : EReal) * w1 x1 (ix2 0 j)) * x2 (ix2 j d)
      = ((((if 0 < uu (s b) W1 j then pp (s b) else pn (s b)) * uu (s b) W1 j) * W2 j d : ℝ) : EReal) := fun j => by
    rw [gw0, gw1, h1, h1, h2, ← EReal.coe_mul, ← EReal.coe_mul, ← EReal.coe_add, show (if (0 : EReal) < ((sa (s b) * W1 0 j + sb (s b) * W1 1 j : ℝ) : EReal) then ((pp (s b) : ℝ) : EReal) else ((pn (s b) : ℝ) : EReal))
      = ((if 0 < uu (s b) W1 j then pp (s b) else pn (s b) : ℝ) : EReal) from if_lt 0 _ _ _, ← EReal.coe_mul, ← EReal.coe_mul]
    rfl
  rw [Finset.sum_congr rfl fun j _ => e j, ← coe_sum]
  rfl

include hx in
/-- The mean at the anchor, picked out by a sum. -/
theorem v234 (b : Fin 8) (d : Fin 768) : c234 x0 (ix2 b d) = ((pw (s b) (anc (s b)) : ℝ) : EReal) := by
  unfold c234 k0_pay35 c103
  pointwise
  rw [v111 hx]
  have hlt := (anc (s b)).isLt
  rw [Finset.sum_eq_single (anc (s b))]
  · rw [cmpi_eq_ofNat (by omega) (by omega), sel_ofBool, if_pos rfl, v94 hx]
  · intro i _ hi
    rw [cmpi_eq_ofNat (by omega) (by omega), sel_ofBool, if_neg fun e => hi (Fin.ext e)]
  · intro h; exact absurd (Finset.mem_univ _) h

include hx h1 h2 in
/-- The structure row of a batch is the row of the shared mathematics. -/
theorem vADD (b : Fin 8) (d : Fin 768) : ADD x0 x1 x2 (ix3 b 0 d) = ((addRow (s b) W1 W2 d : ℝ) : EReal) := by
  unfold ADD k0_pay36
  pointwise
  rw [v234 hx, v227 hx h1 h2, bits_α2, ← EReal.coe_mul, ← EReal.coe_mul]
  exact if_le 0 _ _ _

end Cert.KernelIdeal.Hand

end
-- ==== Proof.KIdx.lean ====
/- The kernel's first grid point on finite scores: the patch numbers and the selection matrices. -/
module

public import proofs.«01_k».proof.Proof.KVal

@[expose] public section

set_option maxRecDepth 16384

noncomputable section

namespace Cert.Hand

open Idealize.ShloMosaic Idealize.ShloMosaic.TcCoe Idealize.ShloMosaic.WordCmp

/-- Two positions on an axis of 24 whose word difference is zero in size are equal. -/
theorem near0 : ∀ a b : Fin 24, IntOp.cmpi CmpIPredicate.eq (IntOp.absi (IntOp.subi (BitVec.ofNat 32 a.val) (BitVec.ofNat 32 b.val))) 0#32
    = BitVec.ofBool (decide (a.val = b.val)) := by decide +kernel
/-- Two positions on an axis of 24 whose word difference is one in size are neighbours. -/
theorem near1 : ∀ a b : Fin 24, IntOp.cmpi CmpIPredicate.eq (IntOp.absi (IntOp.subi (BitVec.ofNat 32 a.val) (BitVec.ofNat 32 b.val))) 1#32
    = BitVec.ofBool (decide (a.val + 1 = b.val ∨ b.val + 1 = a.val)) := by decide +kernel
/-- 575 minus a position, as words. -/
theorem sub575 : ∀ i : Fin 576, IntOp.subi 575#32 (BitVec.ofNat 32 i.val) = BitVec.ofNat 32 (575 - i.val) := by decide +kernel

/-- The weight of a shift along one axis, chosen by two comparisons of words. -/
theorem weight (a b : ℕ) (ha : a < 24) (hb : b < 24) :
    Scalar.select (IntOp.cmpi CmpIPredicate.eq (IntOp.absi (IntOp.subi (BitVec.ofNat 32 a) (BitVec.ofNat 32 b))) 0#32) (Ideal.ofBits FTy.f32 1073741824#32)
      (Scalar.select (IntOp.cmpi CmpIPredicate.eq (IntOp.absi (IntOp.subi (BitVec.ofNat 32 a) (BitVec.ofNat 32 b))) 1#32) (1 : EReal) 0)
      = ((tw a b : ℝ) : EReal) := by
  rw [near0 ⟨a, ha⟩ ⟨b, hb⟩, near1 ⟨a, ha⟩ ⟨b, hb⟩, sel_ofBool, sel_ofBool, bits_2]
  unfold tw
  split
  · norm_num
  · split <;> norm_num

end Cert.Hand

namespace Cert.KernelIdeal.Hand

open Idealize.ShloMosaic Idealize.ShloMosaic.TcCoe Idealize.ShloMosaic.WordCmp Cert.Hand
open Cert.KernelIdeal.Gen

variable {x0 : Vec Ideal S256x576 .f32} {s : Fin 8 → Sc} (hx : Scores x0 s)

include hx in
/-- The kernel's counts: how many heads of a batch select a position. -/
theorem v246 (b : Fin 8) (i : Fin 576) : c246 x0 (ix2 b i) = ((cnt (s b) i : ℝ) : EReal) := by
  unfold c246 k0_pay37
  pointwise
  have e : ∀ r : Fin 256, k0_pay19 (F := Ideal) (ix2 b r) * FloatOps.sitofp FTy.f32 (BitVec.setWidth 32 (c57 x0 (ix2 r i)))
      = (((if r.val / 32 = b.val then 1 else 0 : ℝ) * (if Cert.Hand.sel (s ⟨r.val / 32, by omega⟩) ⟨r.val % 32, by omega⟩ i then 1 else 0 : ℝ) : ℝ) : EReal) := fun r => by
    rw [v57 hx, v19, sitofp_bit, ← EReal.coe_mul]
  rw [Finset.sum_congr rfl fun r _ => e r, ← coe_sum, sum_block]
  unfold cnt
  rw [← sum_bit]
  congr 1
  exact Finset.sum_congr rfl fun c _ => at_block (fun b c => (if Cert.Hand.sel (s b) c i then 1 else 0 : ℝ)) b c

/-- The grid row of a position, down the column of positions. -/
theorem v38 (q : Fin 576) : k0_pay38 c41 (ix2 q 0) = BitVec.ofNat 32 (q.val / 24) := by
  unfold k0_pay38 c41
  pointwise
  simp only [← fdiv.eq_1]
  rw [fdiv_24]

/-- The grid column of a position, down the column of positions. -/
theorem v39 (q : Fin 576) : k0_pay39 c41 (ix2 q 0) = BitVec.ofNat 32 (q.val % 24) := by
  have h := v38 q
  unfold c41 at h
  unfold k0_pay39 c41
  pointwise
  rw [h, fmod_24]

/-- The grid row of a position, along the row of positions. -/
theorem v42 (q : Fin 576) : k0_pay42 c42 24#32 (k0_pay40 c42) (k0_pay41 c42) (ix2 0 q) = BitVec.ofNat 32 (q.val / 24) := by
  unfold k0_pay42 k0_pay40 k0_pay41 c42
  pointwise
  simp only [← fdiv.eq_1]
  rw [fdiv_24]

/-- The row of positions at a position. -/
theorem c42_at (q : Fin 576) : c42 (ix2 0 q) = BitVec.ofNat 32 q.val := by
  unfold c42
  pointwise

/-- The distance of two grid columns, written out. -/
theorem g43 (v42 : IVec S1x576 32) (v273 : IVec S576x1 32) (c24 : BitVec 32) (v275 : IVec S1x576 32) (v277 : IVec S1x576 1) (q i : Fin 576) :
    k0_pay43 v42 v273 c24 v275 v277 (ix2 q i) = IntOp.absi (IntOp.subi (v273 (ix2 q 0))
        (IntOp.subi (v42 (ix2 0 i)) (IntOp.muli (k0_pay42 v42 c24 v275 v277 (ix2 0 i)) 24#32))) := by
  unfold k0_pay43
  pointwise

/-- The distance of two positions' grid columns. -/
theorem v43 (q i : Fin 576) : k0_pay43 c42 (k0_pay39 c41) 24#32 (k0_pay40 c42) (k0_pay41 c42) (ix2 q i)
    = IntOp.absi (IntOp.subi (BitVec.ofNat 32 (q.val % 24)) (BitVec.ofNat 32 (i.val % 24))) := by
  rw [g43, v39, v42, c42_at, fmod_24]

/-- The weight along the grid rows, written out. -/
theorem g44 (v42 : IVec S1x576 32) (v270 : IVec S576x1 32) (c24 : BitVec 32) (v275 : IVec S1x576 32) (v277 : IVec S1x576 1) (q i : Fin 576) :
    k0_pay44 (F := Ideal) v42 v270 c24 v275 v277 (ix2 q i) =
      Scalar.select (IntOp.cmpi CmpIPredicate.eq (IntOp.absi (IntOp.subi (v270 (ix2 q 0)) (k0_pay42 v42 c24 v275 v277 (ix2 0 i)))) 0#32)
      (Ideal.ofBits FTy.f32 1073741824#32)
      (Scalar.select (IntOp.cmpi CmpIPredicate.eq (IntOp.absi (IntOp.subi (v270 (ix2 q 0)) (k0_pay42 v42 c24 v275 v277 (ix2 0 i)))) 1#32) (1 : EReal) 0) := by
  unfold k0_pay44
  pointwise

/-- The weight along the grid rows of two positions. -/
theorem v317 (q i : Fin 576) : c317 (F := Ideal) (ix2 q i) = ((tw (q.val / 24) (i.val / 24) : ℝ) : EReal) := by
  unfold c317
  rw [g44, v38, v42, weight _ _ (by omega) (by omega)]

/-- Whether two positions share a grid column. -/
theorem v319 (q i : Fin 576) : c319 (ix2 q i) = IntOp.cmpi CmpIPredicate.eq (IntOp.absi (IntOp.subi (BitVec.ofNat 32 (q.val % 24)) (BitVec.ofNat 32 (i.val % 24)))) 0#32 := by
  rw [← v43 q i]
  unfold c319 k0_pay45
  pointwise

/-- Whether two positions' grid columns are neighbours. -/
theorem v321 (q i : Fin 576) : c321 (ix2 q i) = IntOp.cmpi CmpIPredicate.eq (IntOp.absi (IntOp.subi (BitVec.ofNat 32 (q.val % 24)) (BitVec.ofNat 32 (i.val % 24)))) 1#32 := by
  rw [← v43 q i]
  unfold c321 k0_pay46
  pointwise

/-- The rank by the smoothed counts, written out: the number of larger keys. -/
theorem g48 (v246 : FVec Ideal S8x576 .f32) (v317 : FVec Ideal S576x576 .f32) (v319 v321 : IVec S576x576 1) (b : Fin 8) (i : Fin 576) :
    k0_pay48 c42 v246 v317 v319 v321 (Scalar.ofBits (F := Ideal) .f32 0x00000000#32) k0_pay47 (ix2 b i) =
    ∑ x : Fin 576, FloatOps.sitofp FTy.f32 (BitVec.setWidth 32 (BitVec.ofBool (decide
              ((∑ x : Fin 576, v246 (ix2 b x) * (v317 (ix2 x i) * Scalar.select (v319 (ix2 x i)) (Ideal.ofBits FTy.f32 1073741824#32) (Scalar.select (v321 (ix2 x i)) (1 : EReal) 0))) *
                    Ideal.ofBits FTy.f32 1141899264#32 + FloatOps.sitofp FTy.f32 (IntOp.subi (575#32) (BitVec.ofNat 32 i.val)) <
                (∑ x_1 : Fin 576, v246 (ix2 b x_1) * (v317 (ix2 x_1 x) * Scalar.select (v319 (ix2 x_1 x)) (Ideal.ofBits FTy.f32 1073741824#32) (Scalar.select (v321 (ix2 x_1 x)) (1 : EReal) 0))) *
                    Ideal.ofBits FTy.f32 1141899264#32 + FloatOps.sitofp FTy.f32 (IntOp.subi (575#32) (BitVec.ofNat 32 x.val)))))) := by
  unfold k0_pay48 k0_pay47 c42
  pointwise

include hx in
/-- The kernel's key of a position is the count and the position in one number. -/
theorem vkey (b : Fin 8) (i : Fin 576) :
    (∑ x : Fin 576, c246 x0 (ix2 b x) * (c317 (F := Ideal) (ix2 x i) * Scalar.select (c319 (ix2 x i)) (Ideal.ofBits FTy.f32 1073741824#32) (Scalar.select (c321 (ix2 x i)) (1 : EReal) 0))) *
      Ideal.ofBits FTy.f32 1141899264#32 + FloatOps.sitofp (F := Ideal) FTy.f32 (IntOp.subi (575#32) (BitVec.ofNat 32 i.val)) = ((key8 (s b) i : ℝ) : EReal) := by
  have e : ∀ x : Fin 576, c246 x0 (ix2 b x) * (c317 (F := Ideal) (ix2 x i) * Scalar.select (c319 (ix2 x i)) (Ideal.ofBits FTy.f32 1073741824#32) (Scalar.select (c321 (ix2 x i)) (1 : EReal) 0))
      = ((cnt (s b) x * (tw (x.val / 24) (i.val / 24) * tw (x.val % 24) (i.val % 24)) : ℝ) : EReal) := fun x => by
    rw [v246 hx, v317, v319, v321, weight _ _ (by omega) (by omega), ← EReal.coe_mul, ← EReal.coe_mul]
  rw [Finset.sum_congr rfl fun x _ => e x, ← coe_sum, bits_576, sub575, sitofp_nat _ (by omega), ← EReal.coe_mul, ← EReal.coe_add]
  congr 1
  unfold key8 sm
  push_cast
  rfl

include hx in
/-- The rank of a position: its place in the order of the smoothed counts. -/
theorem v48 (b : Fin 8) (i : Fin 576) : k0_pay48 c42 (c246 x0) (c317 (F := Ideal)) c319 c321 (Scalar.ofBits (F := Ideal) .f32 0x00000000#32) k0_pay47 (ix2 b i)
    = ((drank (sm (s b)) i : ℝ) : EReal) := by
  rw [g48]
  have e : ∀ x : Fin 576, (if key8 (s b) i < key8 (s b) x then 1 else 0 : ℝ) = if (key8 (s b) i : ℝ) < key8 (s b) x then 1 else 0 := fun x => by
    simp only [Nat.cast_lt]
  simp only [vkey hx, EReal.coe_lt_coe_iff, sitofp_bit, Nat.cast_lt]
  rw [← coe_sum, sum_bit, key8_rank]

/-- The patch number at a place, written out: the sum of the one position of that rank. -/
theorem g49 (v42 : IVec S1x576 32) (v246 : FVec Ideal S8x576 .f32) (v317 : FVec Ideal S576x576 .f32) (v319 v321 : IVec S576x576 1) (v322 : FVec Ideal S576x576 .f32) (z : Ideal .f32) (b : Fin 8) (k : Fin 84) :
    k0_pay49 v42 v246 v317 v319 v321 z v322 (ix3 b 0 k) =
    Ideal.fptosi 32 (∑ x : Fin 576, if k0_pay48 v42 v246 v317 v319 v321 z v322 (ix2 b x) = FloatOps.sitofp (F := Ideal) FTy.f32 (BitVec.ofNat 32 k.val) then
          FloatOps.sitofp (F := Ideal) FTy.f32 (IntOp.addi (BitVec.ofNat 32 x.val) 1#32) else (0 : EReal)) := by
  unfold k0_pay49
  pointwise
  rfl

include hx in
/-- The chosen patches: the positions of the greatest smoothed counts in order, the class row counted. -/
theorem vPIDX (b : Fin 8) (k : Fin 84) : PIDX x0 (ix3 b 0 k) = BitVec.ofNat 32 ((pat (s b) ⟨k.val, by omega⟩).val + 1) := by
  unfold PIDX
  rw [g49, Finset.sum_eq_single (pat (s b) ⟨k.val, by omega⟩)]
  · have hd : drank (sm (s b)) (pat (s b) ⟨k.val, by omega⟩) = k.val := drank_at _ _
    have hlt := (pat (s b) ⟨k.val, by omega⟩).isLt
    rw [v48 hx, hd, sitofp_nat _ (by omega), if_pos rfl, show (1#32) = BitVec.ofNat 32 1 from rfl, addi_ofNat, sitofp_nat _ (by omega)]
    exact fptosi_nat _ (by omega)
  · intro i _ hi
    rw [if_neg]
    rw [v48 hx, sitofp_nat _ (by omega), EReal.coe_eq_coe_iff, Nat.cast_inj]
    intro h
    exact hi ((at_eq_iff (sm (s b)) ⟨k.val, by omega⟩ i).mpr h).symm
  · intro h; exact absurd (Finset.mem_univ _) h

/-- An entry of the selection matrices, written out: whether the position has the rank. -/
theorem g50 (v42 : IVec S1x576 32) (v246 : FVec Ideal S8x576 .f32) (v317 : FVec Ideal S576x576 .f32) (v319 v321 : IVec S576x576 1) (v322 : FVec Ideal S576x576 .f32) (z : Ideal .f32) (b : Fin 8) (k : Fin 84) (i : Fin 576) :
    k0_pay1 (F := Ideal) (k0_pay50 v42 v246 v317 v319 v321 z v322) (ix3 b k i) =
    FloatOps.sitofp (F := Ideal) FTy.f32 (BitVec.setWidth 32 (BitVec.ofBool (decide
            (k0_pay48 v42 v246 v317 v319 v321 z v322 (ix2 b i) = FloatOps.sitofp (F := Ideal) FTy.f32 (BitVec.ofNat 32 k.val))))) := by
  unfold k0_pay1 k0_pay50
  pointwise

include hx in
/-- The selection matrices: one at the patch of a row, nothing elsewhere. -/
theorem vOH (b : Fin 8) (k : Fin 84) (i : Fin 576) : OH x0 (ix3 b k i) = if pat (s b) ⟨k.val, by omega⟩ = i then 1 else 0 := by
  unfold OH
  rw [g50, sitofp_bit, v48 hx, sitofp_nat _ (by omega)]
  have : (((drank (sm (s b)) i : ℝ) : EReal) = ((k.val : ℝ) : EReal)) ↔ pat (s b) ⟨k.val, by omega⟩ = i := by
    rw [EReal.coe_eq_coe_iff, Nat.cast_inj]
    exact (at_eq_iff (sm (s b)) ⟨k.val, by omega⟩ i).symm
  simp only [this]
  split <;> rfl

end Cert.KernelIdeal.Hand

end
-- ==== Proof.KOut.lean ====
/- The ideal kernel's three results after the run, at an index. -/
module

public import proofs.«01_k».proof.Proof.Launch
public import proofs.«01_k».proof.Proof.KVal
public import proofs.«01_k».proof.Proof.KIdx
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat)
open Cert.KernelIdeal.Gen
open Cert.Hand

variable (m : (ℓ : Loc nD τ sig) → Buf (Elt Ideal) ℓ) (ρ : Dev nD → PrngReg)

/-- The hidden states the kernel is given. -/
def HID (c : Dev nD) : Vec Ideal S8x577x768 .f32 := m ((c.tc : Thread nD τ).loc main_arg0)

/-- The scores are one block for all points. -/
theorem idx0 : ∀ t : Fin grid0.N, win0_0.index t = ![0, 0] := by decide +kernel
/-- The first weight is one block for all points. -/
theorem idx1 : ∀ t : Fin grid0.N, win0_1.index t = ![0, 0] := by decide +kernel
/-- The second weight is one block for all points. -/
theorem idx2 : ∀ t : Fin grid0.N, win0_2.index t = ![0, 0] := by decide +kernel
/-- The hidden block of point `t` is that of batch `t - 1`. -/
theorem idx3 : ∀ t : Fin grid0.N, win0_3.index t = ![t.val - 1, 0, 0] := by decide +kernel
/-- The first result's block of point `t` is that of batch `t - 1`. -/
theorem idx4 : ∀ t : Fin grid0.N, win0_4.index t = ![t.val - 1, 0, 0] := by decide +kernel
/-- The second result's block of point `t` is that of batch `t - 1`. -/
theorem idx5 : ∀ t : Fin grid0.N, win0_5.index t = ![t.val - 1, 0, 0] := by decide +kernel
/-- From point 1 on the added row read is that of batch `t - 1`. -/
theorem off1 : ∀ t : Fin grid0.N, 1 ≤ t.val → k0_off1 (grid0.coords t) = ![t.val - 1, 0, 0] := by decide +kernel
/-- From point 1 on the selection matrix read is that of batch `t - 1`. -/
theorem off2 : ∀ t : Fin grid0.N, 1 ≤ t.val → k0_off2 (grid0.coords t) = ![t.val - 1, 0, 0] := by decide +kernel

/-- A place in the scores' block is the same place in the array. -/
theorem emb0 (y : ((cfg0.win 0).xblock (cfg0.grid.coords t0_0)).Idx) : (win0_0.blk t0_0).view.emb y = (y : S256x576.Idx) := by
  funext a
  apply Fin.ext
  refine (Pipeline.Window.rect_emb_val win0_0 t0_0 y a).trans ?_
  rw [idx0]
  fin_cases a
  · exact Nat.zero_add _
  · exact Nat.zero_add _

/-- A place in the first weight's block is the same place in the array. -/
theorem emb1 (y : ((cfg0.win 1).xblock (cfg0.grid.coords t0_0)).Idx) : (win0_1.blk t0_0).view.emb y = (y : S2x512.Idx) := by
  funext a
  apply Fin.ext
  refine (Pipeline.Window.rect_emb_val win0_1 t0_0 y a).trans ?_
  rw [idx1]
  fin_cases a
  · exact Nat.zero_add _
  · exact Nat.zero_add _

/-- A place in the second weight's block is the same place in the array. -/
theorem emb2 (y : ((cfg0.win 2).xblock (cfg0.grid.coords t0_0)).Idx) : (win0_2.blk t0_0).view.emb y = (y : S512x768.Idx) := by
  funext a
  apply Fin.ext
  refine (Pipeline.Window.rect_emb_val win0_2 t0_0 y a).trans ?_
  rw [idx2]
  fin_cases a
  · exact Nat.zero_add _
  · exact Nat.zero_add _

/-- A place in the hidden block is that place of its batch. -/
theorem emb3 (t : Fin cfg0.N) (b : Fin 8) (hb : t.val - 1 = b.val) (y : ((cfg0.win 3).xblock (cfg0.grid.coords t)).Idx) :
    (win0_3.blk t).view.emb y = ix3 b (y 1) (y 2) := by
  funext a
  apply Fin.ext
  refine (Pipeline.Window.rect_emb_val win0_3 t y a).trans ?_
  rw [idx3]
  fin_cases a
  · have h : (y 0 : Nat) < 1 := (y 0).isLt
    show (t.val - 1) * 1 + (y 0 : Nat) = b.val
    omega
  · exact Nat.zero_add _
  · exact Nat.zero_add _

/-- A place in the first result's block is that place of its batch. -/
theorem emb4 (t : Fin cfg0.N) (b : Fin 8) (hb : t.val - 1 = b.val) (y : ((cfg0.win 4).xblock (cfg0.grid.coords t)).Idx) :
    (win0_4.blk t).view.emb y = ix3 b (y 1) (y 2) := by
  funext a
  apply Fin.ext
  refine (Pipeline.Window.rect_emb_val win0_4 t y a).trans ?_
  rw [idx4]
  fin_cases a
  · have h : (y 0 : Nat) < 1 := (y 0).isLt
    show (t.val - 1) * 1 + (y 0 : Nat) = b.val
    omega
  · exact Nat.zero_add _
  · exact Nat.zero_add _

/-- A place in the second result's block is that place of its batch. -/
theorem emb5 (t : Fin cfg0.N) (b : Fin 8) (hb : t.val - 1 = b.val) (y : ((cfg0.win 5).xblock (cfg0.grid.coords t)).Idx) :
    (win0_5.blk t).view.emb y = ix3 b (y 1) (y 2) := by
  funext a
  apply Fin.ext
  refine (Pipeline.Window.rect_emb_val win0_5 t y a).trans ?_
  rw [idx5]
  fin_cases a
  · have h : (y 0 : Nat) < 1 := (y 0).isLt
    show (t.val - 1) * 1 + (y 0 : Nat) = b.val
    omega
  · exact Nat.zero_add _
  · exact Nat.zero_add _

/-- The first weight read by the body is the argument. -/
theorem x1_read (c : Dev nD) (i : Fin 2) (j : Fin 512) : X1 m c (ix2 i j) = m ((c.tc : Thread nD τ).loc main_arg3) (ix2 i j) := by
  unfold X1 iblk
  blk_simp
  rw [← V_main_arg3 m c]
  exact congrArg _ (emb1 (ix2 i j))

/-- The second weight read by the body is the argument. -/
theorem x2_read (c : Dev nD) (i : Fin 512) (j : Fin 768) : X2 m c (ix2 i j) = m ((c.tc : Thread nD τ).loc main_arg4) (ix2 i j) := by
  unfold X2 iblk
  blk_simp
  rw [← V_main_arg4 m c]
  exact congrArg _ (emb2 (ix2 i j))

/-- The hidden block read by the body is its batch of the argument. -/
theorem x3_read (c : Dev nD) (t : Fin cfg0.N) (b : Fin 8) (hb : t.val - 1 = b.val) (p : Fin 577) (d : Fin 768) : X3 m c t (ix3 (0 : Fin 1) p d) = HID m c (ix3 b p d) := by
  unfold X3 HID iblk
  blk_simp
  rw [← V_main_arg0 m c]
  exact congrArg _ (emb3 t b hb (ix3 (0 : Fin 1) p d))

/-- The scores' array that the host makes: row 0 of each head, from its second entry on, a row per batch and head. -/
theorem v2_read (c : Dev nD) : V m c main_v2 = shapeCast S256x576 (shapeCast S8x32x576 (extractStridedSlice S8x32x1x576 ![0, 0, 0, 1] (m ((c.tc : Thread nD τ).loc main_arg1)) slices_S8x32x577x577_S8x32x1x576_0_0_0_1) shapeCasts_S8x32x1x576_S8x32x576) shapeCasts_S8x32x576_S256x576 := by
  show StableHlo.after [_, _, _] _ _ = _
  simp only [StableHlo.after_cons, StableHlo.after_nil]
  after_results_simp
  after_results_loop
  rfl

/-- An entry of the scores read by the body, as an entry of the argument. -/
theorem x0_read (c : Dev nD) (r : Fin 256) (i : Fin 576) :
    X0 m c (ix2 r i) = m ((c.tc : Thread nD τ).loc main_arg1) (ix4 (⟨r.val / 32, by omega⟩ : Fin 8) (⟨r.val % 32, by omega⟩ : Fin 32) (0 : Fin 577) (⟨1 + i.val, by omega⟩ : Fin 577)) := by
  unfold X0 iblk
  blk_simp
  refine (congrArg _ (emb0 (ix2 r i))).trans ?_
  rw [v2_read m c]
  generalize m ((c.tc : Thread nD τ).loc main_arg1) = x
  pointwise

/-- The third result, reshaped by the host, at a batch and a place. -/
theorem v4_read (c : Dev nD) (b : Fin 8) (k : Fin 84) :
    Pipeline.afterTail₀ cfgs (dats m) 0 (V0 m) [hostOps1] c main_v4 (ix2 b k) = (dats m 0 c).arrAt 7 cfg0.N (ix3 b (0 : Fin 1) k) := by
  unfold Pipeline.afterTail₀
  rw [← Pipeline.withArrays_arr spec0 winFacts0.arr_inj c (V0 m c) (fun w => (dats m 0 c).arrAt w (cfgs 0).N) 7]
  generalize hW : (Pipeline.withArrays (cfgs 0).spec c (V0 m c) fun w => (dats m 0 c).arrAt w (cfgs 0).N) = W
  show StableHlo.after [_] W (Proc.devRef .tc main_v4) (ix2 b k) = W (Proc.devRef .tc main_v3_3) (ix3 b (0 : Fin 1) k)
  simp only [StableHlo.after_cons, StableHlo.after_nil]
  after_results_simp
  after_results_loop
  generalize W (Proc.devRef .tc main_v3_3) = x
  show shapeCast S8x84 x _ _ = _
  pointwise

/-- A point's first result at an entry: the hidden state, with the added row in row 0. -/
theorem out5_at (i : grid0.Coords) (h : k0_cond2 i = 1#1) (x3 : Vec Ideal S1x577x768 .f32) (a7 : Vec Ideal S8x1x768 .f32) (b : Fin 8) (ho : k0_off1 i = ![b.val, 0, 0])
    (p : Fin 577) (d : Fin 768) :
    @Eq EReal (OUT5 i h x3 a7 (ix3 (0 : Fin 1) p d)) (if p.val = 0 then HAdd.hAdd (α := EReal) (β := EReal) (x3 (ix3 (0 : Fin 1) p d)) (a7 (ix3 b (0 : Fin 1) d)) else x3 (ix3 (0 : Fin 1) p d)) := by
  unfold OUT5 VecWindow.put
  split
  · next h' =>
    have h1 := (h' 1).2
    have hp : p.val = 0 := by simpa using h1
    rw [if_pos hp]
    unfold k0_pay3
    pointwise
    refine congrArg₂ (fun x y : EReal => x + y) (congrArg x3 ?_) (congrArg a7 ?_)
    · funext a; apply Fin.ext; fin_cases a
      · rfl
      · exact hp.symm
      · simp [Rect.unitLocal, ix3]
    · funext a; apply Fin.ext; fin_cases a
      · exact congrFun ho 0
      · exact congrFun ho 1
      · have := congrFun ho 2
        simp [Rect.unitLocal, ix3] at this ⊢
        exact this
  · next h' =>
    have hp : ¬ p.val = 0 := fun e => h' (by intro a; fin_cases a <;> simp [e])
    rw [if_neg hp]
    unfold k0_pay2
    pointwise

/-- A point's second result at an entry: the hidden row that the selection matrix picks. -/
theorem out6_at (i : grid0.Coords) (h : k0_cond2 i = 1#1) (x3 : Vec Ideal S1x577x768 .f32) (a9 : Vec Ideal S8x84x576 .f32) (b : Fin 8) (ho : k0_off2 i = ![b.val, 0, 0])
    (k : Fin 84) (d : Fin 768) (q : Fin 576) (ha : ∀ j : Fin 576, a9 (ix3 b k j) = ((if q = j then 1 else 0 : ℝ) : EReal)) :
    OUT6 i h x3 a9 (ix3 (0 : Fin 1) k d) = x3 (ix3 (0 : Fin 1) ⟨1 + q.val, by omega⟩ d) := by
  unfold OUT6 k0_pay4
  pointwise
  have h0 : k0_off2 i 0 = b.val := congrFun ho 0
  have h1 : k0_off2 i 1 = 0 := congrFun ho 1
  have h2 : k0_off2 i 2 = 0 := congrFun ho 2
  refine (Finset.sum_eq_single (M := EReal) q ?_ (fun h => absurd (Finset.mem_univ q) h)).trans ?_
  · intro j _ hj
    refine (congrArg (fun z : EReal => z * _) ((congrArg a9 ?_).trans (ha j))).trans ?_
    · funext a; apply Fin.ext; fin_cases a
      · exact h0
      · show k0_off2 i 1 + k.val = k.val; omega
      · show k0_off2 i 2 + j.val = j.val; omega
    · rw [if_neg (Ne.symm hj)]; exact zero_mul _
  · refine (congrArg (fun z : EReal => z * _) ((congrArg a9 ?_).trans (ha q))).trans ?_
    · funext a; apply Fin.ext; fin_cases a
      · exact h0
      · show k0_off2 i 1 + k.val = k.val; omega
      · show k0_off2 i 2 + q.val = q.val; omega
    · rw [if_pos rfl]; exact one_mul _

/-- A place in an array of three axes is given by its three coordinates. -/
theorem eta3 {A B C : ℕ} (y : (⟨3, ![A, B, C]⟩ : Shape).Idx) : ∃ a b c, y = ix3 a b c :=
  ⟨y 0, y 1, y 2, by funext a; fin_cases a <;> rfl⟩

/-- The first result: the hidden states with the structure row added to the class row. -/
def G4 (c : Dev nD) : Vec Ideal S8x577x768 .f32 := fun i =>
  if (i 1).val = 0 then HAdd.hAdd (α := EReal) (β := EReal) (HID m c i) (ADD (X0 m c) (X1 m c) (X2 m c) (ix3 (i 0) (0 : Fin 1) (i 2))) else HID m c i

/-- The first result after the run. -/
theorem arr4 (c : Dev nD) : (dats m 0 c).arrAt 4 cfg0.N = G4 m c := by
  refine (dats m 0 c).arrAt_eq_of_covers 4 _ (by decide +kernel) fun t hf y => ?_
  blk_simp
  rw [after_4]
  have h1 := (flush4_iff t).mp hf
  have h2 := (cond2_iff t).mpr h1
  have hN : t.val < 9 := lt_of_lt_of_eq t.isLt (show cfg0.N = 9 from N_0)
  rw [show AF4 m c t = OUT5 (grid0.coords t) h2 (X3 m c t) (ADD (X0 m c) (X1 m c) (X2 m c)) from dif_pos h2,
    emb4 t ⟨t.val - 1, by omega⟩ rfl y]
  obtain ⟨z, p, d, rfl⟩ := eta3 (A := 1) (B := 577) (C := 768) y
  obtain rfl : z = 0 := Subsingleton.elim _ _
  refine (out5_at (grid0.coords t) h2 _ _ ⟨t.val - 1, by omega⟩ (off1 t h1) p d).trans ?_
  rw [x3_read m c t ⟨t.val - 1, by omega⟩ rfl p d]
  rfl

/-- The second result after the run: each row is a hidden row, after the class row, at the selected position. -/
theorem arr5 (c : Dev nD) (q : Fin 8 → Fin 84 → Fin 576) (hq : ∀ b k j, OH (X0 m c) (ix3 b k j) = ((if q b k = j then 1 else 0 : ℝ) : EReal)) :
    (dats m 0 c).arrAt 5 cfg0.N = (fun i => HID m c (ix3 (i 0) ⟨1 + (q (i 0) (i 1)).val, by omega⟩ (i 2)) : Vec Ideal S8x84x768 .f32) := by
  refine (dats m 0 c).arrAt_eq_of_covers 5 _ (by decide +kernel) fun t hf y => ?_
  blk_simp
  rw [after_5]
  have h1 := (flush5_iff t).mp hf
  have h2 := (cond2_iff t).mpr h1
  have hN : t.val < 9 := lt_of_lt_of_eq t.isLt (show cfg0.N = 9 from N_0)
  rw [show AF5 m c t = OUT6 (grid0.coords t) h2 (X3 m c t) (OH (X0 m c)) from dif_pos h2,
    emb5 t ⟨t.val - 1, by omega⟩ rfl y]
  obtain ⟨z, k, d, rfl⟩ := eta3 (A := 1) (B := 84) (C := 768) y
  obtain rfl : z = 0 := Subsingleton.elim _ _
  refine (out6_at (grid0.coords t) h2 _ _ ⟨t.val - 1, by omega⟩ (off2 t h1) k d (q ⟨t.val - 1, by omega⟩ k) (fun j => hq _ k j)).trans ?_
  exact x3_read m c t ⟨t.val - 1, by omega⟩ rfl _ d

/-- The patch numbers after the run. -/
theorem arr7 (c : Dev nD) : (dats m 0 c).arrAt 7 cfg0.N = PIDX (X0 m c) := by
  refine (dats m 0 c).arrAt_eq_of_after_last 7 t0_8 (by decide +kernel) _ fun j => ?_
  blk_simp
  rw [after_7]

end Cert.KernelIdeal.Hand

end
-- ==== Proof.RMove.lean ====
/- What the reference's reads, writes and sorts by computed positions come to. -/
module

public import proofs.«01_k».proof.Proof.Math
public import proofs.«01_k».proof.Proof.Gen.ReferenceIdeal.Run
public import Idealize.ShloMosaic.Lib.Pointwise
public import Idealize.ShloMosaic.Lib.Pointwise.Tactic
public import Idealize.ShloMosaic.Lib.WordCmp
public import Idealize.ShloMosaic.Lib.Routing.OpsOrder

@[expose] public section

set_option maxRecDepth 16384

noncomputable section

namespace Cert.ReferenceIdeal.Hand

open Cert.ReferenceIdeal Cert.ReferenceIdeal.Value Idealize.ShloMosaic Idealize.ShloMosaic.TcCoe Idealize.ShloMosaic.StableHlo
open Cert.Hand

/-- A number below 2^31 read back from its word. -/
theorem toInt_nat (n : ℕ) (h : n < 2 ^ 31) : (BitVec.ofNat 32 n).toInt = n := by
  rw [BitVec.toInt_eq_toNat_of_lt (by rw [BitVec.toNat_ofNat]; omega), BitVec.toNat_ofNat]
  congr 1; omega

/-- The gather of the anchor's label: the row the indices name. -/
theorem gatherA {α : Type} (x : S8x576x2.Idx → α) (idx : IVec S8x2 32) (b : Fin 8) (p : Fin 576) (j : Fin 2)
    (h0 : idx (ix2 b 0) = BitVec.ofNat 32 b.val) (h1 : idx (ix2 b 1) = BitVec.ofNat 32 p.val) :
    Host.gather gather_S8x576x2_S8x2_S8x2_1_01_n_n_01_1_112 x idx (ix2 b j) = x (ix3 b p j) := by
  unfold Host.gather
  congr 1
  funext a
  refine Fin.ext ?_
  show gather_S8x576x2_S8x2_S8x2_1_01_n_n_01_1_112.start (ix2 b j) idx a + gather_S8x576x2_S8x2_S8x2_1_01_n_n_01_1_112.batchCoord (ix2 b j) a
    + gather_S8x576x2_S8x2_S8x2_1_01_n_n_01_1_112.offCoord (ix2 b j) a = _
  have e0 : gather_S8x576x2_S8x2_S8x2_1_01_n_n_01_1_112.siIdx (ix2 b j) ⟨0, by decide⟩ = ix2 b 0 := by
    funext c; fin_cases c <;> rfl
  have e1 : gather_S8x576x2_S8x2_S8x2_1_01_n_n_01_1_112.siIdx (ix2 b j) ⟨1, by decide⟩ = ix2 b 1 := by
    funext c; fin_cases c <;> rfl
  match a with
  | ⟨0, _⟩ =>
    show min (idx (gather_S8x576x2_S8x2_S8x2_1_01_n_n_01_1_112.siIdx (ix2 b j) ⟨0, by decide⟩)).toInt.toNat (8 - 1) + 0 + 0 = b.val
    rw [e0, h0, toInt_nat _ (by omega)]
    omega
  | ⟨1, _⟩ =>
    show min (idx (gather_S8x576x2_S8x2_S8x2_1_01_n_n_01_1_112.siIdx (ix2 b j) ⟨1, by decide⟩)).toInt.toNat (576 - 1) + 0 + 0 = p.val
    rw [e1, h1, toInt_nat _ (by omega)]
    omega
  | ⟨2, _⟩ =>
    show 0 + 0 + j.val = j.val
    omega

/-- The gather of the anchor's output row: the row the indices name. -/
theorem gatherB {α : Type} (x : S8x576x768.Idx → α) (idx : IVec S8x2 32) (b : Fin 8) (p : Fin 576) (j : Fin 768)
    (h0 : idx (ix2 b 0) = BitVec.ofNat 32 b.val) (h1 : idx (ix2 b 1) = BitVec.ofNat 32 p.val) :
    Host.gather gather_S8x576x768_S8x2_S8x768_1_01_n_n_01_1_11768 x idx (ix2 b j) = x (ix3 b p j) := by
  unfold Host.gather
  congr 1
  funext a
  refine Fin.ext ?_
  show gather_S8x576x768_S8x2_S8x768_1_01_n_n_01_1_11768.start (ix2 b j) idx a + gather_S8x576x768_S8x2_S8x768_1_01_n_n_01_1_11768.batchCoord (ix2 b j) a
    + gather_S8x576x768_S8x2_S8x768_1_01_n_n_01_1_11768.offCoord (ix2 b j) a = _
  have e0 : gather_S8x576x768_S8x2_S8x768_1_01_n_n_01_1_11768.siIdx (ix2 b j) ⟨0, by decide⟩ = ix2 b 0 := by
    funext c; fin_cases c <;> rfl
  have e1 : gather_S8x576x768_S8x2_S8x768_1_01_n_n_01_1_11768.siIdx (ix2 b j) ⟨1, by decide⟩ = ix2 b 1 := by
    funext c; fin_cases c <;> rfl
  match a with
  | ⟨0, _⟩ =>
    show min (idx (gather_S8x576x768_S8x2_S8x768_1_01_n_n_01_1_11768.siIdx (ix2 b j) ⟨0, by decide⟩)).toInt.toNat (8 - 1) + 0 + 0 = b.val
    rw [e0, h0, toInt_nat _ (by omega)]
    omega
  | ⟨1, _⟩ =>
    show min (idx (gather_S8x576x768_S8x2_S8x768_1_01_n_n_01_1_11768.siIdx (ix2 b j) ⟨1, by decide⟩)).toInt.toNat (576 - 1) + 0 + 0 = p.val
    rw [e1, h1, toInt_nat _ (by omega)]
    omega
  | ⟨2, _⟩ =>
    show 0 + 0 + j.val = j.val
    omega

/-- The gather of the selected rows: the row the indices name. -/
theorem gatherC {α : Type} (x : S8x577x768.Idx → α) (idx : IVec S8x84x2 32) (b : Fin 8) (k : Fin 84) (p : Fin 577) (j : Fin 768)
    (h0 : idx (ix3 b k 0) = BitVec.ofNat 32 b.val) (h1 : idx (ix3 b k 1) = BitVec.ofNat 32 p.val) :
    Host.gather gather_S8x577x768_S8x84x2_S8x84x768_2_01_n_n_01_2_11768 x idx (ix3 b k j) = x (ix3 b p j) := by
  unfold Host.gather
  congr 1
  funext a
  refine Fin.ext ?_
  show gather_S8x577x768_S8x84x2_S8x84x768_2_01_n_n_01_2_11768.start (ix3 b k j) idx a + gather_S8x577x768_S8x84x2_S8x84x768_2_01_n_n_01_2_11768.batchCoord (ix3 b k j) a
    + gather_S8x577x768_S8x84x2_S8x84x768_2_01_n_n_01_2_11768.offCoord (ix3 b k j) a = _
  have e0 : gather_S8x577x768_S8x84x2_S8x84x768_2_01_n_n_01_2_11768.siIdx (ix3 b k j) ⟨0, by decide⟩ = ix3 b k 0 := by
    funext c; fin_cases c <;> rfl
  have e1 : gather_S8x577x768_S8x84x2_S8x84x768_2_01_n_n_01_2_11768.siIdx (ix3 b k j) ⟨1, by decide⟩ = ix3 b k 1 := by
    funext c; fin_cases c <;> rfl
  match a with
  | ⟨0, _⟩ =>
    show min (idx (gather_S8x577x768_S8x84x2_S8x84x768_2_01_n_n_01_2_11768.siIdx (ix3 b k j) ⟨0, by decide⟩)).toInt.toNat (8 - 1) + 0 + 0 = b.val
    rw [e0, h0, toInt_nat _ (by omega)]
    omega
  | ⟨1, _⟩ =>
    show min (idx (gather_S8x577x768_S8x84x2_S8x84x768_2_01_n_n_01_2_11768.siIdx (ix3 b k j) ⟨1, by decide⟩)).toInt.toNat (577 - 1) + 0 + 0 = p.val
    rw [e1, h1, toInt_nat _ (by omega)]
    omega
  | ⟨2, _⟩ =>
    show 0 + 0 + j.val = j.val
    omega

/-- Where the scatter adds an entry of the added rows: row 0 of its batch. -/
theorem scatA (b : Fin 8) (d : Fin 768) (idx : IVec S1 32) (h : idx (ix1 0) = 0#32) :
    scatter_S8x577x768_S1_S8x768_01_1_1_0.resultIdx? (ix2 b d) idx = some (ix3 b 0 d) := by
  have e0 : scatter_S8x577x768_S1_S8x768_01_1_1_0.siIdx (ix2 b d) ⟨0, by decide⟩ = ix1 0 := by
    funext c; fin_cases c; rfl
  have s : ∀ a : Fin 3, scatter_S8x577x768_S1_S8x768_01_1_1_0.start (ix2 b d) idx a = 0 := fun a => by
    match a with
    | ⟨0, _⟩ => rfl
    | ⟨1, _⟩ =>
      show (idx (scatter_S8x577x768_S1_S8x768_01_1_1_0.siIdx (ix2 b d) ⟨0, by decide⟩)).toInt = 0
      rw [e0, h]; rfl
    | ⟨2, _⟩ => rfl
  have w : ∀ a : Fin 3, scatter_S8x577x768_S1_S8x768_01_1_1_0.window (ix2 b d) a = ((ix3 b 0 d : S8x577x768.Idx) a).val := fun a => by
    match a with
    | ⟨0, _⟩ => rfl
    | ⟨1, _⟩ => rfl
    | ⟨2, _⟩ => rfl
  unfold ScatterDims.resultIdx?
  rw [dif_pos]
  · congr 1
    funext a
    refine Fin.ext ?_
    show (scatter_S8x577x768_S1_S8x768_01_1_1_0.start (ix2 b d) idx a + scatter_S8x577x768_S1_S8x768_01_1_1_0.window (ix2 b d) a).toNat = _
    rw [s a, w a]; omega
  · intro a
    rw [s a, w a]
    refine ⟨by omega, ?_⟩
    simp only [zero_add, add_zero, Nat.cast_zero]
    exact Int.ofNat_lt.mpr (Fin.isLt _)

/-- Where the scatter of the counts adds: the position named, in its batch. -/
theorem scatB (b : Fin 8) (k : Fin 2688) (p : Fin 576) (idx : IVec S8x2688x2 32) (h0 : idx (ix3 b k 0) = BitVec.ofNat 32 b.val) (h1 : idx (ix3 b k 1) = BitVec.ofNat 32 p.val) :
    scatter_S8x576_S8x2688x2_S8x2688_n_01_01_2.resultIdx? (ix2 b k) idx = some (ix2 b p) := by
  have e0 : scatter_S8x576_S8x2688x2_S8x2688_n_01_01_2.siIdx (ix2 b k) ⟨0, by decide⟩ = ix3 b k 0 := by
    funext c; fin_cases c <;> rfl
  have e1 : scatter_S8x576_S8x2688x2_S8x2688_n_01_01_2.siIdx (ix2 b k) ⟨1, by decide⟩ = ix3 b k 1 := by
    funext c; fin_cases c <;> rfl
  have s : ∀ a : Fin 2, scatter_S8x576_S8x2688x2_S8x2688_n_01_01_2.start (ix2 b k) idx a = (((ix2 b p : S8x576.Idx) a).val : ℤ) := fun a => by
    match a with
    | ⟨0, _⟩ =>
      show (idx (scatter_S8x576_S8x2688x2_S8x2688_n_01_01_2.siIdx (ix2 b k) ⟨0, by decide⟩)).toInt = (b.val : ℤ)
      rw [e0, h0, toInt_nat _ (by omega)]
    | ⟨1, _⟩ =>
      show (idx (scatter_S8x576_S8x2688x2_S8x2688_n_01_01_2.siIdx (ix2 b k) ⟨1, by decide⟩)).toInt = (p.val : ℤ)
      rw [e1, h1, toInt_nat _ (by omega)]
  have w : ∀ a : Fin 2, scatter_S8x576_S8x2688x2_S8x2688_n_01_01_2.window (ix2 b k) a = 0 := fun a => by
    match a with
    | ⟨0, _⟩ => rfl
    | ⟨1, _⟩ => rfl
  unfold ScatterDims.resultIdx?
  rw [dif_pos]
  · congr 1
    funext a
    refine Fin.ext ?_
    show (scatter_S8x576_S8x2688x2_S8x2688_n_01_01_2.start (ix2 b k) idx a + scatter_S8x576_S8x2688x2_S8x2688_n_01_01_2.window (ix2 b k) a).toNat = _
    rw [s a, w a]; omega
  · intro a
    rw [s a, w a]
    refine ⟨by omega, ?_⟩
    simp only [zero_add, add_zero, Nat.cast_zero]
    exact Int.ofNat_lt.mpr (Fin.isLt _)

/-- Moving along the last of three axes. -/
theorem along3 (b : Fin 8) (c : Fin 32) (k k' : Fin 576) (h : 2 < S8x32x576.rank) : Shape.Idx.along (s := S8x32x576) (ix3 b c k) ⟨2, h⟩ k' = ix3 b c k' := by
  funext a
  fin_cases a <;> rfl

/-- Moving along the last of two axes. -/
theorem along2 (b : Fin 8) (k k' : Fin 576) (h : 1 < S8x576.rank) : Shape.Idx.along (s := S8x576) (ix2 b k) ⟨1, h⟩ k' = ix2 b k' := by
  funext a
  fin_cases a <;> rfl

/-- The second result of a sort of an array together with its positions: where the sort takes each place from. -/
theorem sort2_pos {α : Type} {s : Shape} {d : ℕ} (hd : d < s.rank) (cmp : α × BitVec 32 → α × BitVec 32 → BitVec 1) (x : s.Idx → α) (j : s.Idx) :
    (Host.sort2 s d cmp x (fun i => BitVec.ofNat 32 (i ⟨d, hd⟩).val)).2 j
      = BitVec.ofNat 32 (sortedFrom (fun k k' => cmp (x (j.along ⟨d, hd⟩ k), BitVec.ofNat 32 k.val) (x (j.along ⟨d, hd⟩ k'), BitVec.ofNat 32 k'.val) == 1#1) (j ⟨d, hd⟩)).val := by
  unfold Host.sort2
  rw [dif_pos hd]
  simp only [Shape.Idx.along, Function.update_self]

/-- The comparison of the selection, on reals. -/
theorem gt_real (p q : ℝ) : (FloatOps.cmpfTotal (F := Ideal) (φ := .f32) .gt ((p : ℝ) : EReal) ((q : ℝ) : EReal) == 1#1) = decide (q < p) := by
  show (BitVec.ofBool (decide (((q : ℝ) : EReal) < ((p : ℝ) : EReal))) == 1#1) = _
  simp only [EReal.coe_lt_coe_iff]
  cases decide (q < p) <;> rfl

/-- The positions of the greatest entries of a head's row. -/
theorem topK3 (x : S8x32x576.Idx → EReal) (f : Fin 576 → ℝ) (b : Fin 8) (c : Fin 32) (hf : ∀ i, x (ix3 b c i) = ((f i : ℝ) : EReal)) (k : Fin 84) (h) :
    (Host.topK S8x32x84 2 (FloatOps.cmpfTotal (F := Ideal) (φ := .f32) .gt) x h).2 (ix3 b c k)
      = BitVec.ofNat 32 (at_ f ⟨k.val, by omega⟩).val := by
  unfold Host.topK
  pointwise
  refine (sort2_pos (s := S8x32x576) (d := 2) (by decide) _ x _).trans ?_
  refine congrArg (fun z : Fin 576 => BitVec.ofNat 32 z.val) (sortedFrom_eq (n := 576) f _ (fun k1 k2 => ?_) ⟨k.val, by omega⟩)
  rw [along3 b c _ k1, along3 b c _ k2, hf, hf]
  exact gt_real _ _

/-- The position of the greatest entry of a batch's row. -/
theorem topK2 (x : S8x576.Idx → EReal) (f : Fin 576 → ℝ) (b : Fin 8) (hf : ∀ i, x (ix2 b i) = ((f i : ℝ) : EReal)) (h) :
    (Host.topK S8x1 1 (FloatOps.cmpfTotal (F := Ideal) (φ := .f32) .gt) x h).2 (ix2 b 0)
      = BitVec.ofNat 32 (at_ f 0).val := by
  unfold Host.topK
  pointwise
  refine (sort2_pos (s := S8x576) (d := 1) (by decide) _ x _).trans ?_
  refine congrArg (fun z : Fin 576 => BitVec.ofNat 32 z.val) (sortedFrom_eq (n := 576) f _ (fun k1 k2 => ?_) 0)
  rw [along2 b _ k1, along2 b _ k2, hf, hf]
  exact gt_real _ _

/-- The comparison of the sort is the strict order of the keys. -/
theorem cmp_lt (l r : EReal × BitVec 32) : comparator_f32_i32_d1 (F := Ideal) l r = BitVec.ofBool (decide (l.1 < r.1)) := by
  have e : ∀ x : EReal, Scalar.select (FloatOps.cmpf (F := Ideal) (φ := .f32) CmpFPredicate.une x x) (FloatOps.ofBits (F := Ideal) FTy.f32 2143289344#32)
      (Scalar.select (FloatOps.cmpf (F := Ideal) (φ := .f32) CmpFPredicate.oeq x (FloatOps.ofBits (F := Ideal) FTy.f32 0#32)) (FloatOps.ofBits (F := Ideal) FTy.f32 0#32) x) = x := fun x => by
    have h1 : FloatOps.cmpf (F := Ideal) (φ := .f32) CmpFPredicate.une x x = BitVec.ofBool (decide (x ≠ x)) := rfl
    have h2 : FloatOps.cmpf (F := Ideal) (φ := .f32) CmpFPredicate.oeq x (FloatOps.ofBits (F := Ideal) FTy.f32 0#32) = BitVec.ofBool (decide (x = FloatOps.ofBits (F := Ideal) FTy.f32 0#32)) := rfl
    rw [h1, h2]
    erw [sel_ofBool, sel_ofBool]
    rw [if_neg (fun h => h rfl)]
    split
    · next h => exact h.symm
    · rfl
  unfold comparator_f32_i32_d1
  dsimp only
  rw [e l.1, e r.1]
  rfl

/-- The sort of the negated counts names the positions in the stable descending order. -/
theorem argsort (x : S8x576.Idx → EReal) (f : Fin 576 → ℕ) (b : Fin 8) (hf : ∀ i, x (ix2 b i) = ((-(f i : ℝ) : ℝ) : EReal)) (k : Fin 576) :
    (Host.sort2 S8x576 1 (comparator_f32_i32_d1 (F := Ideal)) x (iotaInDim S8x576 32 1)).2 (ix2 b k) = BitVec.ofNat 32 (at_ f k).val := by
  refine (sort2_pos (s := S8x576) (d := 1) (by decide) _ x _).trans ?_
  refine congrArg (fun z : Fin 576 => BitVec.ofNat 32 z.val) (sortedFrom_eq (n := 576) f _ (fun k1 k2 => ?_) k)
  rw [along2 b _ k1, along2 b _ k2, hf, hf, cmp_lt]
  simp only [EReal.coe_lt_coe_iff, neg_lt_neg_iff, Nat.cast_lt]
  cases decide (f k2 < f k1) <;> rfl

/-- Of a list without repetition whose one member `n0` is marked, the fold of the marked members takes one step. -/
theorem foldl_one {ι α : Type} [DecidableEq ι] (f : α → α) (p : ι → Prop) [DecidablePred p] (n0 : ι) :
    ∀ (L : List ι) (x : α), L.Nodup → (∀ n ∈ L, p n ↔ n = n0) → L.foldl (fun a n => if p n then f a else a) x = if n0 ∈ L then f x else x := by
  intro L
  induction L with
  | nil => intro x _ _; simp
  | cons n l ih =>
    intro x hn hp
    rw [List.nodup_cons] at hn
    rw [List.foldl_cons, ih _ hn.2 fun m hm => hp m (List.mem_cons_of_mem _ hm)]
    have h := hp n List.mem_cons_self
    by_cases e : n = n0
    · subst e
      rw [if_neg hn.1, if_pos (h.mpr rfl), if_pos List.mem_cons_self]
    · rw [if_neg fun hc => e (h.mp hc)]
      simp only [List.mem_cons, Ne.symm e, false_or]

/-- A place in a matrix is given by its two coordinates. -/
theorem idx2_eta {m n : ℕ} (j : (⟨2, ![m, n]⟩ : Shape).Idx) : ∃ (a : Fin m) (b : Fin n), j = ix2 a b := by
  refine ⟨j 0, j 1, ?_⟩
  funext a
  fin_cases a <;> rfl

/-- The row added to row zero of every batch; the other rows stay. -/
theorem scatter_row {α : Type} (f : α → α → α) (x : S8x577x768.Idx → α) (idx : IVec S1 32) (h : idx (ix1 0) = 0#32) (upd : S8x768.Idx → α)
    (b : Fin 8) (p : Fin 577) (d : Fin 768) :
    Host.scatter scatter_S8x577x768_S1_S8x768_01_1_1_0 f x idx upd (ix3 b p d) = if p = 0 then f (x (ix3 b p d)) (upd (ix2 b d)) else x (ix3 b p d) := by
  rw [← Routing.scatterIn_finRange, Routing.scatterIn_at]
  have hr : ∀ n : Fin S8x768.numel, scatter_S8x577x768_S1_S8x768_01_1_1_0.resultIdx? (S8x768.rowMajor.symm n) idx = some (ix3 b p d)
      ↔ (p = 0 ∧ S8x768.rowMajor.symm n = ix2 b d) := fun n => by
    generalize S8x768.rowMajor.symm n = j
    obtain ⟨b', d', rfl⟩ := idx2_eta j
    rw [scatA b' d' idx h, Option.some_inj]
    constructor
    · intro e
      have e0 : b' = b := congrFun e 0
      have e1 : (0 : Fin 577) = p := congrFun e 1
      have e2 : d' = d := congrFun e 2
      exact ⟨e1.symm, by rw [e0, e2]⟩
    · rintro ⟨e, e'⟩
      have e0 : b' = b := congrFun e' 0
      have e2 : d' = d := congrFun e' 1
      rw [e0, e2, e]
  by_cases hp : p = 0
  · rw [if_pos hp]
    have e : ∀ (a : α) (n : Fin S8x768.numel), (if scatter_S8x577x768_S1_S8x768_01_1_1_0.resultIdx? (S8x768.rowMajor.symm n) idx = some (ix3 b p d) then f a (upd (S8x768.rowMajor.symm n)) else a)
        = if n = S8x768.rowMajor (ix2 b d) then f a (upd (ix2 b d)) else a := fun a n => by
      by_cases hn : S8x768.rowMajor.symm n = ix2 b d
      · rw [if_pos ((hr n).mpr ⟨hp, hn⟩), if_pos ((Equiv.symm_apply_eq _).mp hn), hn]
      · rw [if_neg fun hc => hn ((hr n).mp hc).2, if_neg fun hc => hn ((Equiv.symm_apply_eq _).mpr hc)]
    simp only [e]
    rw [foldl_one (fun a => f a (upd (ix2 b d))) (fun n => n = S8x768.rowMajor (ix2 b d)) (S8x768.rowMajor (ix2 b d)) _ _ (List.nodup_finRange _) (fun n _ => Iff.rfl),
      if_pos (List.mem_finRange _)]
  · rw [if_neg hp]
    have e : ∀ (a : α) (n : Fin S8x768.numel), (if scatter_S8x577x768_S1_S8x768_01_1_1_0.resultIdx? (S8x768.rowMajor.symm n) idx = some (ix3 b p d) then f a (upd (S8x768.rowMajor.symm n)) else a) = a := fun a n =>
      if_neg fun hc => hp ((hr n).mp hc).1
    simp only [e]
    exact List.foldl_fixed _

/-- The scattered ones count, at a position, the heads that select it. -/
theorem scatter_count (s : Fin 8 → Sc) (idx : IVec S8x2688x2 32) (h0 : ∀ b k, idx (ix3 b k 0) = BitVec.ofNat 32 b.val)
    (h1 : ∀ (b : Fin 8) (k : Fin 2688), idx (ix3 b k 1) = BitVec.ofNat 32 (at_ (s b ⟨k.val / 84, by omega⟩) ⟨k.val % 84, by omega⟩).val)
    (x : S8x576.Idx → EReal) (hx : ∀ b i, x (ix2 b i) = 0) (u : S8x2688.Idx → EReal) (hu : ∀ j, u j = 1) (b : Fin 8) (i : Fin 576) :
    Ideal.hostScatterAdd scatter_S8x576_S8x2688x2_S8x2688_n_01_01_2 x idx u (ix2 b i) = ((cnt (s b) i : ℝ) : EReal) := by
  unfold Ideal.hostScatterAdd
  rw [hx, zero_add, Finset.sum_congr rfl fun j _ => hu j, Finset.sum_congr rfl fun j _ => (EReal.coe_one).symm, ← coe_sum]
  congr 1
  rw [Finset.sum_const, nsmul_eq_mul, mul_one]
  congr 1
  unfold cnt
  have hr : ∀ (b' : Fin 8) (k : Fin 2688), scatter_S8x576_S8x2688x2_S8x2688_n_01_01_2.resultIdx? (ix2 b' k) idx = some (ix2 b i)
      ↔ b' = b ∧ drank (s b' ⟨k.val / 84, by omega⟩) i = k.val % 84 := fun b' k => by
    rw [scatB b' k _ idx (h0 b' k) (h1 b' k), Option.some_inj]
    constructor
    · intro e
      exact ⟨congrFun e 0, (at_eq_iff _ _ i).mp (congrFun e 1)⟩
    · rintro ⟨e, e'⟩
      rw [(at_eq_iff (s b' ⟨k.val / 84, by omega⟩) ⟨k.val % 84, by omega⟩ i).mpr e', e]
  refine Finset.card_bij' (fun (j : S8x2688.Idx) _ => (⟨(j 1).val / 84, by have := (j 1).isLt; change (j 1).val < 2688 at this; omega⟩ : Fin 32))
    (fun (c : Fin 32) hc => (ix2 b ⟨c.val * 84 + drank (s b c) i, by have : drank (s b c) i < 84 := (Finset.mem_filter.mp hc).2; omega⟩ : S8x2688.Idx)) ?_ ?_ ?_ ?_
  · intro j hj
    obtain ⟨b', k, rfl⟩ := idx2_eta j
    obtain ⟨hb, hd⟩ := (hr b' k).mp (Finset.mem_filter.mp hj).2
    subst hb
    refine Finset.mem_filter.mpr ⟨Finset.mem_univ _, ?_⟩
    show drank (s b' ⟨k.val / 84, by omega⟩) i < 84
    rw [hd]
    omega
  · intro c hc
    have hc : drank (s b c) i < 84 := (Finset.mem_filter.mp hc).2
    refine Finset.mem_filter.mpr ⟨Finset.mem_univ _, ?_⟩
    rw [hr]
    have e : (⟨(c.val * 84 + drank (s b c) i) / 84, by omega⟩ : Fin 32) = c := Fin.ext (by show _ / 84 = _; omega)
    refine ⟨rfl, ?_⟩
    show drank (s b ⟨(c.val * 84 + drank (s b c) i) / 84, by omega⟩) i = (c.val * 84 + drank (s b c) i) % 84
    rw [e]
    omega
  · intro j hj
    obtain ⟨b', k, rfl⟩ := idx2_eta j
    obtain ⟨hb, hd⟩ := (hr b' k).mp (Finset.mem_filter.mp hj).2
    subst hb
    have e : k.val / 84 * 84 + drank (s b' ⟨k.val / 84, by omega⟩) i = k.val := by
      rw [hd]; omega
    exact congrArg (ix2 b') (Fin.ext e)
  · intro c hc
    have hc : drank (s b c) i < 84 := (Finset.mem_filter.mp hc).2
    exact Fin.ext (by show (c.val * 84 + drank (s b c) i) / 84 = _; omega)

end Cert.ReferenceIdeal.Hand

end
-- ==== Proof.RVal.lean ====
/- The reference on finite scores: what its three results come to in the shared mathematics. -/
module

public import proofs.«01_k».proof.Proof.RMove

@[expose] public section

set_option maxRecDepth 16384

noncomputable section

namespace Cert.ReferenceIdeal.Hand

open Cert.ReferenceIdeal Cert.ReferenceIdeal.Value Idealize.ShloMosaic Idealize.ShloMosaic.TcCoe Idealize.ShloMosaic.StableHlo
open Cert.Hand Cert.ReferenceIdeal.Gen

/-- The scores the reference reads are the real scores: the class row of every head, the class column left out. -/
def Scores (V0 : Valuation τ sig (Elt Ideal)) (s : Fin 8 → Sc) : Prop :=
  ∀ (b : Fin 8) (c : Fin 32) (i : Fin 576), @Eq EReal (res_main_v1 V0 (ix3 b c i)) ((s b c i : ℝ) : EReal)

variable {V0 : Valuation τ sig (Elt Ideal)} {s : Fin 8 → Sc} (hs : Scores V0 s)

include hs in
/-- The selected positions of a head, in order. -/
theorem vidx (b : Fin 8) (c : Fin 32) (k : Fin 84) : res_main_indices V0 (ix3 b c k) = BitVec.ofNat 32 (at_ (s b c) ⟨k.val, by omega⟩).val :=
  topK3 (res_main_v1 V0) (s b c) b c (hs b c) k _

/-- A truth value as a number. -/
theorem uitofp_bit (p : Prop) [Decidable p] : FloatOps.uitofp (F := Ideal) FTy.f32 (BitVec.ofBool (decide p)) = ((if p then 1 else 0 : ℝ) : EReal) := by
  by_cases h : p <;> simp [h, FloatOps.uitofp]

include hs in
/-- A head selects a position where its one-hot row is not all zero. -/
theorem hot (b : Fin 8) (c : Fin 32) (p : Fin 576) :
    (∑ x : Fin 84, FloatOps.uitofp (F := Ideal) FTy.f32 (IntOp.cmpi CmpIPredicate.eq (res_main_indices V0 (ix3 b c x)) (BitVec.ofNat 32 p.val)))
      = ((((Finset.univ.filter fun x : Fin 84 => drank (s b c) p = x.val).card : ℕ) : ℝ) : EReal) := by
  have e : ∀ x : Fin 84, FloatOps.uitofp (F := Ideal) FTy.f32 (IntOp.cmpi CmpIPredicate.eq (res_main_indices V0 (ix3 b c x)) (BitVec.ofNat 32 p.val))
      = ((if drank (s b c) p = x.val then 1 else 0 : ℝ) : EReal) := fun x => by
    rw [vidx hs, WordCmp.cmpi_eq_ofNat (by omega) (by omega), uitofp_bit]
    have : ((at_ (s b c) ⟨x.val, by omega⟩).val = p.val) ↔ drank (s b c) p = x.val :=
      Fin.ext_iff.symm.trans (at_eq_iff (s b c) ⟨x.val, by omega⟩ p)
    simp only [this]
  rw [Finset.sum_congr rfl fun x _ => e x, ← coe_sum, sum_bit]

include hs in
/-- The scaled scores on the grid. -/
theorem v9 (b : Fin 8) (c : Fin 32) (i j : Fin 24) : @Eq EReal (res_main_v9 V0 (ix4 b c i j)) ((ns (s b) c ⟨i.val * 24 + j.val, by omega⟩ : ℝ) : EReal) := by
  have h := hot hs b c ⟨i.val * 24 + j.val, by omega⟩
  unfold res_main_v9
  pointwise
  have hl : (0 : EReal) < ∑ x : Fin 84, FloatOps.uitofp (F := Ideal) FTy.f32 (IntOp.cmpi CmpIPredicate.eq (res_main_indices V0 (ix3 b c x)) (BitVec.ofNat 32 (i.val * 24 + j.val)))
      ↔ Cert.Hand.sel (s b) c ⟨i.val * 24 + j.val, by omega⟩ := by
    refine (show _ ↔ _ from by rw [show (∑ x : Fin 84, FloatOps.uitofp (F := Ideal) FTy.f32 (IntOp.cmpi CmpIPredicate.eq (res_main_indices V0 (ix3 b c x)) (BitVec.ofNat 32 (i.val * 24 + j.val)))) = _ from h]).trans ?_
    rw [show (0 : EReal) = ((0 : ℝ) : EReal) from rfl, EReal.coe_lt_coe_iff, Nat.cast_pos, Finset.card_pos]
    constructor
    · rintro ⟨x, hx⟩
      have := (Finset.mem_filter.mp hx).2
      show drank _ _ < 84
      omega
    · intro hlt
      exact ⟨⟨_, hlt⟩, Finset.mem_filter.mpr ⟨Finset.mem_univ _, rfl⟩⟩
  simp only [hl]
  rw [hs, bits_α7, ← EReal.coe_mul]
  unfold ns
  split <;> rfl

/-- A position from its grid row and column. -/
theorem fold_ij (i : Fin 576) : (⟨(⟨i.val / 24, by omega⟩ : Fin 24).val * 24 + (⟨i.val % 24, by omega⟩ : Fin 24).val, by omega⟩ : Fin 576) = i :=
  Fin.ext (by show i.val / 24 * 24 + i.val % 24 = _; omega)

include hs in
/-- The scaled scores by position. -/
theorem v9' (b : Fin 8) (c : Fin 32) (i : Fin 576) : @Eq EReal (res_main_v9 V0 (ix4 b c ⟨i.val / 24, by omega⟩ ⟨i.val % 24, by omega⟩)) ((ns (s b) c i : ℝ) : EReal) := by
  rw [v9 hs, fold_ij]

include hs in
/-- Their sums over the heads. -/
theorem v11 (b : Fin 8) (i : Fin 576) : @Eq EReal (res_main_v11 V0 (ix2 b i)) ((ms (s b) i : ℝ) : EReal) := by
  unfold res_main_v11
  pointwise
  refine (Finset.sum_congr (M := EReal) rfl fun c _ => v9' hs b c i).trans ?_
  rw [← coe_sum]
  rfl

include hs in
/-- The total of a batch's sums. -/
theorem v11s (b : Fin 8) : (Finset.univ.sum (M := EReal) fun y : Fin 576 => res_main_v11 V0 (ix2 b y)) = ((∑ i, ms (s b) i : ℝ) : EReal) := by
  refine (Finset.sum_congr (M := EReal) rfl fun y _ => v11 hs b y).trans ?_
  rw [← coe_sum]

include hs in
/-- The masked means. -/
theorem v27 (b : Fin 8) (i : Fin 576) : @Eq EReal (res_main_v27 V0 (ix2 b i)) ((mv (s b) i : ℝ) : EReal) := by
  unfold res_main_v27
  pointwise
  refine (congrArg₂ Ideal.div (Finset.sum_congr (M := EReal) (g := fun x => ((ns (s b) x i * (if th (s b) < ms (s b) i then 1 else 0) : ℝ) : EReal)) rfl
    fun x _ => ?_) bits_32).trans ?_
  · rw [v9' hs, uitofp_bit, v11 hs, v11s hs b, bits_576, div_real (by norm_num), ← EReal.coe_mul]
    simp only [EReal.coe_lt_coe_iff]
    rfl
  · rw [← coe_sum, div_real (by norm_num)]
    congr 1
    unfold mv pw
    rw [← Finset.sum_mul]
    split
    · rw [mul_one]; rfl
    · rw [mul_zero, zero_div]

include hs in
/-- The anchor's position. -/
theorem v28 (b : Fin 8) : res_main_v28 V0 (ix1 b) = BitVec.ofNat 32 (anc (s b)).val := by
  unfold res_main_v28
  pointwise
  exact topK2 (res_main_v27 V0) (mv (s b)) b (v27 hs b) _

/-- The row and the column of a position of the grid. -/
def pos (i : Fin 576) (j : Fin 2) : ℕ := if j.val < 1 then i.val / 24 else i.val % 24
/-- A grid coordinate is below 24. -/
theorem pos_lt (i : Fin 576) (j : Fin 2) : pos i j < 24 := by unfold pos; split <;> omega

/-- The labels: the grid coordinates of a position. -/
theorem v38 (b : Fin 8) (i : Fin 576) (j : Fin 2) : @Eq EReal (res_main_v38 V0 (ix3 b i j)) ((pos i j : ℝ) : EReal) := by
  unfold res_main_v38
  pointwise
  have e : (if h : j.val < 1 then BitVec.ofNat 32 (i.val / 24) else BitVec.ofNat 32 (i.val % 24)) = BitVec.ofNat 32 (pos i j) := by
    unfold pos
    split <;> rfl
  rw [e, sitofp_nat _ (by have := pos_lt i j; omega)]

/-- A nonnegative index word is not wrapped around. -/
theorem nowrap (n : ℕ) (h : n < 2 ^ 31) (a : BitVec 32) : Scalar.select (IntOp.cmpi CmpIPredicate.slt (BitVec.ofNat 32 n) 0#32) a (BitVec.ofNat 32 n) = BitVec.ofNat 32 n := by
  have e : (BitVec.ofNat 32 n).slt 0#32 = false := by
    rw [BitVec.slt_eq_decide, toInt_nat n h]
    simp
  unfold Scalar.select IntOp.cmpi
  simp [e]

include hs in
/-- The anchor's label. -/
theorem v54 (b : Fin 8) (j : Fin 2) : @Eq EReal (res_main_v54 V0 (ix3 b 0 j)) ((pos (anc (s b)) j : ℝ) : EReal) := by
  unfold res_main_v54
  pointwise
  refine (gatherA (α := EReal) _ _ b (anc (s b)) j ?_ ?_).trans (v38 b _ j)
  · unfold res_main_v39
    pointwise
    exact nowrap _ (by omega) _
  · unfold res_main_v39
    pointwise
    rw [v28 hs]
    exact nowrap _ (by omega) _

include hs in
/-- The offsets from the anchor. -/
theorem v58 (b : Fin 8) (i : Fin 576) (j : Fin 2) : @Eq EReal (res_main_v58 V0 (ix3 b i j)) ((((pos i j : ℝ) - pos (anc (s b)) j) / 24 : ℝ) : EReal) := by
  unfold res_main_v58
  pointwise
  rw [v38, v54 hs, bits_24, ← EReal.coe_sub, div_real (by norm_num)]

include hs in
/-- The mean over the heads. -/
theorem v81 (b : Fin 8) (i : Fin 576) : @Eq EReal (res_main_v81 V0 (ix3 b i 0)) ((pw (s b) i : ℝ) : EReal) := by
  unfold res_main_v81
  pointwise
  refine (congrArg₂ Ideal.div (Finset.sum_congr (M := EReal) rfl fun x _ => v9' hs b x i) bits_32).trans ?_
  rw [← coe_sum, div_real (by norm_num)]
  rfl

include hs in
/-- The adjacency is the outer product of the means. -/
theorem v83 (b : Fin 8) (i j : Fin 576) : @Eq EReal (res_main_v83 V0 (ix3 b i j)) ((pw (s b) i * pw (s b) j : ℝ) : EReal) := by
  unfold res_main_v83
  pointwise
  refine (Fintype.sum_unique (M := EReal) _).trans ?_
  rw [EReal.coe_mul]
  exact congrArg₂ (fun x y : EReal => x * y) (v81 hs b i) (v81 hs b j)

include hs in
/-- The anchor's position computed back from its label. -/
theorem v99 (b : Fin 8) : res_main_v99 V0 (ix1 b) = BitVec.ofNat 32 (anc (s b)).val := by
  unfold res_main_v99 res_main_v91
  pointwise
  rw [v54 hs, v54 hs, bits_24, ← EReal.coe_mul, ← EReal.coe_add]
  have e : ((pos (anc (s b)) 0 : ℝ) * 24 + (pos (anc (s b)) 1 : ℝ)) = (((anc (s b)).val : ℕ) : ℝ) := by
    have h : pos (anc (s b)) 0 * 24 + pos (anc (s b)) 1 = (anc (s b)).val := by
      show (anc (s b)).val / 24 * 24 + (anc (s b)).val % 24 = _
      omega
    rw [← h]
    push_cast
    rfl
  rw [e]
  exact fptosi_nat _ (by omega)

variable {W1 : Fin 2 → Fin 512 → ℝ} {W2 : Fin 512 → Fin 768 → ℝ}
variable (h1 : ∀ i j, @Eq EReal (V0 (Proc.devRef .tc main_arg3) (ix2 i j)) ((W1 i j : ℝ) : EReal))
variable (h2 : ∀ i j, @Eq EReal (V0 (Proc.devRef .tc main_arg4) (ix2 i j)) ((W2 i j : ℝ) : EReal))

include hs h1 in
/-- The first layer before its slope. -/
theorem v85 (b : Fin 8) (i : Fin 576) (j : Fin 512) : @Eq EReal (res_main_v85 V0 (ix3 b i j)) ((pw (s b) i * uu (s b) W1 j : ℝ) : EReal) := by
  unfold res_main_v85
  pointwise
  rw [← layer1, coe_sum]
  refine Finset.sum_congr (M := EReal) rfl fun x _ => ?_
  rw [EReal.coe_mul]
  refine congrArg₂ (fun x y : EReal => x * y) (v83 hs b i x) ?_
  rw [EReal.coe_add]
  refine congrArg₂ (fun x y : EReal => x + y) ((Fintype.sum_unique (M := EReal) _).trans ?_) ((Fintype.sum_unique (M := EReal) _).trans ?_)
  · rw [EReal.coe_mul]
    refine congrArg₂ (fun x y : EReal => x * y) ?_ (h1 0 j)
    have e : Finset.univ.sum (M := EReal) (fun k : Fin 2 => (fun z : EReal => z * z) (res_main_v58 V0 (ix3 b x k)))
        = ((relI (s b) x * relI (s b) x + relJ (s b) x * relJ (s b) x : ℝ) : EReal) := by
      refine (Fin.sum_univ_two (M := EReal) _).trans ?_
      beta_reduce
      rw [v58 hs, v58 hs, ← EReal.coe_mul, ← EReal.coe_mul, ← EReal.coe_add]
      rfl
    refine (congrArg Ideal.sqrt e).trans ?_
    exact sqrt_real (add_nonneg (mul_self_nonneg _) (mul_self_nonneg _))
  · rw [EReal.coe_mul]
    refine congrArg₂ (fun x y : EReal => x * y) ?_ (h1 1 j)
    rw [v58 hs, v58 hs, atan2_coe, bits_pi, bits_2, div_real (by unfold qpi; norm_num), show (1 : EReal) = ((1 : ℝ) : EReal) from rfl, ← EReal.coe_add, div_real (by norm_num), div_inv_eq_mul]
    rfl

include hs h1 h2 in
/-- The second layer before its slope. -/
theorem v89 (b : Fin 8) (i : Fin 576) (d : Fin 768) : @Eq EReal (res_main_v89 V0 (ix3 b i d)) ((pw (s b) i * gv (s b) W1 W2 d : ℝ) : EReal) := by
  unfold res_main_v89
  pointwise
  rw [← layer2, coe_sum]
  refine Finset.sum_congr (M := EReal) rfl fun x _ => ?_
  rw [EReal.coe_mul]
  refine congrArg₂ (fun x y : EReal => x * y) (v83 hs b i x) ?_
  rw [coe_sum]
  refine Finset.sum_congr (M := EReal) rfl fun j _ => ?_
  rw [EReal.coe_mul]
  refine congrArg₂ (fun x y : EReal => x * y) ?_ (h2 j d)
  rw [v85 hs h1, show id (constant (F := Ideal) S_ FTy.f32 1045220557#32) ix0 = ((α2 : ℝ) : EReal) from bits_α2, ← EReal.coe_mul]
  rw [show (0 : EReal) = ((0 : ℝ) : EReal) from rfl, ← max_coe]
  exact congrArg (fun z : EReal => max z ((0 : ℝ) : EReal)) (if_le 0 _ _ _)

/-! ## The patch numbers -/

include hs in
/-- The counts on the padded grid. -/
theorem v138 (b : Fin 8) (i j : Fin 26) : @Eq EReal (res_main_v138 V0 (ix3 b i j)) ((pad2 (s b) i.val j.val : ℝ) : EReal) := by
  unfold res_main_v138
  pointwise
  unfold pad2
  split
  · next h =>
    refine scatter_count s _ ?_ ?_ _ ?_ _ ?_ b _
    · intro b k
      unfold res_main_v120
      pointwise
      exact nowrap _ (by omega) _
    · intro b k
      unfold res_main_v117
      pointwise
      rw [vidx hs]
      exact nowrap _ (by omega) _
    · intro b i
      pointwise
    · intro j
      obtain ⟨b, k, rfl⟩ := idx2_eta j
      pointwise
      trace_state
  · next h =>
    exact (sitofp_nat 0 (by omega)).trans (by simp)

include hs in
/-- The smoothed counts, negated. -/
theorem v175 (b : Fin 8) (i : Fin 576) : @Eq EReal (res_main_v175 V0 (ix2 b i)) ((-(sm (s b) i : ℝ) : ℝ) : EReal) := by
  unfold res_main_v175
  pointwise
  simp only [v138 hs]
  rw [sm_nine, bits_2, bits_4]
  simp only [← EReal.coe_mul, ← EReal.coe_add, ← EReal.coe_neg]

include hs in
/-- The patch numbers the reference returns. -/
theorem v179 (b : Fin 8) (k : Fin 84) : res_main_v179 V0 (ix2 b k) = BitVec.ofNat 32 ((pat (s b) ⟨k.val, by omega⟩).val + 1) := by
  unfold res_main_v179 res_main_call6_v0
  pointwise
  rw [argsort (res_main_v175 V0) (sm (s b)) b (v175 hs b) ⟨k.val, by omega⟩, show (1#32) = BitVec.ofNat 32 1 from rfl, WordCmp.addi_ofNat]
  rfl

/-! ## The hidden states -/

/-- The reference's first result: the hidden states with the structure row added to the class row. -/
def R0 (V0 : Valuation τ sig (Elt Ideal)) : Vec Ideal S8x577x768 .f32 :=
  Host.scatter scatter_S8x577x768_S1_S8x768_01_1_1_0 (@FloatOps.addf Ideal _ .f32) (V0 (Proc.devRef .tc main_arg0)) (broadcastInDim S1 ![] bcast_S_S1 (constantI S_ 32 0#32)) (Host.gather gather_S8x576x768_S8x2_S8x768_1_01_n_n_01_1_11768 (select (cmpf .oge (res_main_v89 V0) (broadcastInDim S8x576x768 ![] bcast_S_S8x576x768 (constant S_ .f32 0x00000000#32))) (res_main_v89 V0) (mulf (broadcastInDim S8x576x768 ![] bcast_S_S8x576x768 (id (constant S_ .f32 0x3E4CCCCD#32))) (res_main_v89 V0))) (concatenate S8x2 1 [⟨S8x1, (broadcastInDim S8x1 ![0] bcast_S8_S8x1_0 (select (cmpi .slt (res_main_v100 V0) (broadcastInDim S8 ![] bcast_S_S8 (constantI S_ 32 0#32))) (addi (res_main_v100 V0) (broadcastInDim S8 ![] bcast_S_S8 (constantI S_ 32 8#32))) (res_main_v100 V0)))⟩, ⟨S8x1, (broadcastInDim S8x1 ![0] bcast_S8_S8x1_0 (select (cmpi .slt (res_main_v99 V0) (broadcastInDim S8 ![] bcast_S_S8 (constantI S_ 32 0#32))) (addi (res_main_v99 V0) (broadcastInDim S8 ![] bcast_S_S8 (constantI S_ 32 576#32))) (res_main_v99 V0)))⟩] concatenates_S8x1_S8x1_S8x2_d1))

/-- The reference's second result: the hidden states of the chosen patches. -/
def R1 (V0 : Valuation τ sig (Elt Ideal)) : Vec Ideal S8x84x768 .f32 :=
  Host.gather gather_S8x577x768_S8x84x2_S8x84x768_2_01_n_n_01_2_11768 (R0 V0) (concatenate S8x84x2 2 [⟨S8x84x1, (broadcastInDim S8x84x1 ![0, 1] bcast_S8x84_S8x84x1_0_1 (broadcastInDim S8x84 ![0, 1] bcast_S8x1_S8x84_0_1 (select (cmpi .slt (res_main_v181 V0) (broadcastInDim S8x1 ![] bcast_S_S8x1 (constantI S_ 32 0#32))) (addi (res_main_v181 V0) (broadcastInDim S8x1 ![] bcast_S_S8x1 (constantI S_ 32 8#32))) (res_main_v181 V0))))⟩, ⟨S8x84x1, (broadcastInDim S8x84x1 ![0, 1] bcast_S8x84_S8x84x1_0_1 (select (cmpi .slt (res_main_v179 V0) (broadcastInDim S8x84 ![] bcast_S_S8x84 (constantI S_ 32 0#32))) (addi (res_main_v179 V0) (broadcastInDim S8x84 ![] bcast_S_S8x84 (constantI S_ 32 577#32))) (res_main_v179 V0)))⟩] concatenates_S8x84x1_S8x84x1_S8x84x2_d2)

include hs h1 h2 in
/-- The first result: the row of the shared mathematics added to the class row, the other rows kept. -/
theorem vR0 (b : Fin 8) (p : Fin 577) (d : Fin 768) :
    @Eq EReal (R0 V0 (ix3 b p d)) (if p = 0 then HAdd.hAdd (α := EReal) (β := EReal) (V0 (Proc.devRef .tc main_arg0) (ix3 b p d)) ((addRow (s b) W1 W2 d : ℝ) : EReal) else V0 (Proc.devRef .tc main_arg0) (ix3 b p d)) := by
  unfold R0
  refine (scatter_row (α := EReal) _ _ _ ?_ _ b p d).trans ?_
  · pointwise
  split
  · refine congrArg (fun z : EReal => HAdd.hAdd (α := EReal) (β := EReal) (V0 (Proc.devRef .tc main_arg0) (ix3 b p d)) z) ?_
    refine (gatherB (α := EReal) _ _ b (anc (s b)) d ?_ ?_).trans ?_
    · unfold res_main_v100
      pointwise
      exact nowrap _ (by omega) _
    · pointwise
      rw [v99 hs]
      exact nowrap _ (by omega) _
    · pointwise
      rw [v89 hs h1 h2, show id (constant (F := Ideal) S_ FTy.f32 1045220557#32) ix0 = ((α2 : ℝ) : EReal) from bits_α2, ← EReal.coe_mul]
      exact if_le 0 _ _ _
  · rfl

include hs h1 h2 in
/-- The second result: the hidden states at the patch numbers. -/
theorem vR1 (b : Fin 8) (k : Fin 84) (d : Fin 768) :
    R1 V0 (ix3 b k d) = V0 (Proc.devRef .tc main_arg0) (ix3 b ⟨(pat (s b) ⟨k.val, by omega⟩).val + 1, by omega⟩ d) := by
  unfold R1
  refine (gatherC (α := EReal) _ _ b k ⟨(pat (s b) ⟨k.val, by omega⟩).val + 1, by omega⟩ d ?_ ?_).trans ?_
  · unfold res_main_v181
    pointwise
    exact nowrap _ (by omega) _
  · pointwise
    rw [v179 hs]
    exact nowrap _ (by omega) _
  · rw [vR0 hs h1 h2, if_neg]
    intro h
    exact absurd (congrArg Fin.val h) (by simp)

end Cert.ReferenceIdeal.Hand

end
-- ==== Proof.Pre.lean ====
/- What the precondition says: the scores and both weights are real numbers. -/
module

public import proofs.«01_k».proof.Pre_finite
public import proofs.«01_k».proof.Proof.Gen.Pre_finite
public import proofs.«01_k».proof.Proof.Math
public import Idealize.ShloMosaic.Lib.ReduceAll
public import Idealize.ShloMosaic.Lib.Tactic
public import Idealize.ShloMosaic.Lib.Pipeline.Value
public import Idealize.ShloMosaic.Lib.Pipeline.ValueKit
public import Idealize.ShloMosaic.Lib.Claim
public import Idealize.ShloMosaic.PureOps.Ideal

@[expose] public section

set_option maxRecDepth 16384

noncomputable section

namespace Cert.Pre_finite.Hand

open Idealize.ShloMosaic Idealize.ShloMosaic.Tactic
open Cert.Pre_finite Cert.Pre_finite.Gen

/-- An extended real whose absolute value is below infinity is a real number. -/
theorem real_of_abs (x : EReal) (h : FloatOps.cmpf (F := Ideal) (φ := .f32) .olt (max x (-x)) (FloatOps.ofBits (F := Ideal) .f32 0x7F800000#32) = 1#1) :
    x = ((x.toReal : ℝ) : EReal) := by
  have ht : (FloatOps.ofBits (F := Ideal) .f32 0x7F800000#32 : EReal) = ⊤ := by
    show Ideal.ofBits .f32 0x7F800000#32 = ⊤
    simp [Ideal.ofBits, Ideal.ieee]
  have h' : BitVec.ofBool (decide (max x (-x) < (⊤ : EReal))) = 1#1 := by rw [← ht]; exact h
  have hlt : max x (-x) < (⊤ : EReal) := by
    by_contra hn
    rw [decide_eq_false hn] at h'
    exact absurd h' (by decide)
  refine (EReal.coe_toReal ?_ ?_).symm
  · rintro rfl
    exact absurd hlt (by simp)
  · rintro rfl
    exact absurd hlt (by simp)

/-- There is one place in an array without axes. -/
instance : Subsingleton S_.Idx := ⟨fun a b => funext fun i => i.elim0⟩

/-- Under the precondition the scores of the first row, past their first column, and both weights are real numbers. -/
theorem reads (a0 : FVec Ideal S8x577x768 .f32) (a1 : FVec Ideal S8x32x577x577 .f32) (a2 : FVec Ideal S8x576 .f32) (a3 : FVec Ideal S2x512 .f32) (a4 : FVec Ideal S512x768 .f32)
    (h : fn (F := Ideal) a0 a1 a2 a3 a4 = fun _ => 1#1) :
    (∀ (b : Fin 8) (c : Fin 32) (i : Fin 576), @Eq EReal (a1 (ix4 b c (0 : Fin 577) (⟨1 + i.val, by omega⟩ : Fin 577))) ((EReal.toReal (a1 (ix4 b c (0 : Fin 577) (⟨1 + i.val, by omega⟩ : Fin 577))) : ℝ) : EReal))
      ∧ (∀ (i : Fin 2) (j : Fin 512), @Eq EReal (a3 (ix2 i j)) ((EReal.toReal (a3 (ix2 i j)) : ℝ) : EReal))
      ∧ (∀ (i : Fin 512) (j : Fin 768), @Eq EReal (a4 (ix2 i j)) ((EReal.toReal (a4 (ix2 i j)) : ℝ) : EReal)) := by
  have h0 := congrFun h ix0
  unfold fn at h0
  dsimp only at h0
  have and1 : ∀ p q : BitVec 1, IntOp.andi p q = 1#1 → p = 1#1 ∧ q = 1#1 := by decide
  obtain ⟨h12, h3⟩ := and1 _ _ h0
  obtain ⟨h1, h2⟩ := and1 _ _ h12
  refine ⟨fun b c i => ?_, fun i j => ?_, fun i j => ?_⟩
  · have e := Host.reduce_andi_all _ _ _ _ _ h1 (ix3 b c i)
    revert e
    pointwise
    exact fun e => real_of_abs _ e
  · have e := Host.reduce_andi_all _ _ _ _ _ h2 (ix2 i j)
    exact real_of_abs _ e
  · have e := Host.reduce_andi_all _ _ _ _ _ h3 (ix2 i j)
    exact real_of_abs _ e

end Cert.Pre_finite.Hand

end
-- ==== Proof.Tie.lean ====
/- The value claim: the ideal kernel and the ideal reference end with the same three results. -/
module

public import proofs.«01_k».proof.Defs
public import proofs.«01_k».proof.Proof.Gen.ReferenceIdeal.Run
public import proofs.«01_k».proof.Proof.KOut
public import proofs.«01_k».proof.Proof.RVal
public import proofs.«01_k».proof.Proof.Pre
public import Idealize.ShloMosaic.Lib.Quiescent

@[expose] public section

set_option maxRecDepth 16384

noncomputable section

namespace Cert.Tie

open Idealize.ShloMosaic Idealize.ShloMosaic.TcCoe Idealize.ShloMosaic.Tactic
open Idealize.SL.Sem
open Cert.Hand

section Kernel

open Cert.KernelIdeal Cert.KernelIdeal.Gen Cert.KernelIdeal.Hand

variable (m : (ℓ : Loc nD τ sig) → Buf (Elt Ideal) ℓ) (ρ : Dev nD → PrngReg)

/-- The ideal kernel's run, read: its three results, the arguments unchanged. -/
theorem run_kernel : θ_run defs (onTc (τ := τ) (main (F := Ideal))) ⟨m, fun _ => 0, ρ⟩ (fun r => ∀ c : Dev nD,
      r.2.mem ((c.tc : Thread nD τ).loc main_v3_0) = G4 m c
      ∧ r.2.mem ((c.tc : Thread nD τ).loc main_v3_1) = (dats m 0 c).arrAt 5 cfg0.N
      ∧ r.2.mem ((c.tc : Thread nD τ).loc main_v4) = Pipeline.afterTail₀ cfgs (dats m) 0 (V0 m) [hostOps1] c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨((h.1.1 c).1 4).trans (arr4 m c), (h.1.1 c).1 5,
      (h.1.1 c).2 main_v4 (Pipeline.mem_restRefs_of main_v4 (by decide) (by decide)), h.2.1 c⟩)
    (θ_run_and (run_main m ρ) (frame_all m ρ))

end Kernel

section Reference

open Cert.ReferenceIdeal Cert.ReferenceIdeal.Gen Cert.ReferenceIdeal.Value Cert.ReferenceIdeal.Hand

/-- The reference's scores are the first row's, past its first column. -/
theorem scores_ref (V0 : Valuation τ sig (Elt Ideal)) (s : Fin 8 → Sc)
    (h : ∀ (b : Fin 8) (c : Fin 32) (i : Fin 576), @Eq EReal (V0 (Proc.devRef .tc main_arg1) (ix4 b c (0 : Fin 577) (⟨1 + i.val, by omega⟩ : Fin 577))) ((s b c i : ℝ) : EReal)) :
    Cert.ReferenceIdeal.Hand.Scores V0 s := fun b c i => by
  refine Eq.trans ?_ (h b c i)
  unfold res_main_v1
  pointwise

end Reference

/-- The value claim. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, _, _, run_kernel m g, ?_⟩
  refine (θ_run _ _ _).mono (fun r h c => ?_) (Cert.ReferenceIdeal.Value.run m' g')
  obtain ⟨r0, r1, r2, f0, f1, f2, f3, f4⟩ := h c
  obtain ⟨e0, e1, e2, e3, e4⟩ := hagree c
  obtain ⟨p1, p3, p4⟩ := Cert.Pre_finite.Hand.reads _ _ _ _ _ (hpre c)
  let s : Fin 8 → Sc := fun b c' i => EReal.toReal (m ((c.tc : Thread Cert.KernelIdeal.nD Cert.KernelIdeal.τ).loc Cert.KernelIdeal.main_arg1) (ix4 b c' (0 : Fin 577) (⟨1 + i.val, by omega⟩ : Fin 577)))
  let W1 : Fin 2 → Fin 512 → ℝ := fun i j => EReal.toReal (m ((c.tc : Thread Cert.KernelIdeal.nD Cert.KernelIdeal.τ).loc Cert.KernelIdeal.main_arg3) (ix2 i j))
  let W2 : Fin 512 → Fin 768 → ℝ := fun i j => EReal.toReal (m ((c.tc : Thread Cert.KernelIdeal.nD Cert.KernelIdeal.τ).loc Cert.KernelIdeal.main_arg4) (ix2 i j))
  have kx : Cert.KernelIdeal.Hand.Scores (Cert.KernelIdeal.Hand.X0 m c) s := fun r i => (Cert.KernelIdeal.Hand.x0_read m c r i).trans (p1 _ _ i)
  have k1 : ∀ i j, Cert.KernelIdeal.Hand.X1 m c (ix2 i j) = ((W1 i j : ℝ) : EReal) := fun i j => (Cert.KernelIdeal.Hand.x1_read m c i j).trans (p3 i j)
  have k2 : ∀ i j, Cert.KernelIdeal.Hand.X2 m c (ix2 i j) = ((W2 i j : ℝ) : EReal) := fun i j => (Cert.KernelIdeal.Hand.x2_read m c i j).trans (p4 i j)
  have rx : Cert.ReferenceIdeal.Hand.Scores (StableHlo.launchContents m' c) s := scores_ref _ s fun b c' i => (congrFun e1 _).trans (p1 b c' i)
  have rw1 : ∀ i j, @Eq EReal (StableHlo.launchContents m' c (Proc.devRef .tc Cert.ReferenceIdeal.main_arg3) (ix2 i j)) ((W1 i j : ℝ) : EReal) := fun i j => (congrFun e3 _).trans (p3 i j)
  have rw2 : ∀ i j, @Eq EReal (StableHlo.launchContents m' c (Proc.devRef .tc Cert.ReferenceIdeal.main_arg4) (ix2 i j)) ((W2 i j : ℝ) : EReal) := fun i j => (congrFun e4 _).trans (p4 i j)
  refine ⟨r0.trans ?_, r1.trans ?_, r2.trans ?_, f0, f1, f2, f3, f4⟩
  · funext i
    obtain ⟨b, p, d, rfl⟩ := Cert.KernelIdeal.Hand.eta3 (A := 8) (B := 577) (C := 768) i
    refine (Cert.ReferenceIdeal.Hand.vR0 rx rw1 rw2 b p d).trans ?_
    have eh : StableHlo.launchContents m' c (Proc.devRef .tc Cert.ReferenceIdeal.main_arg0) (ix3 b p d) = Cert.KernelIdeal.Hand.HID m c (ix3 b p d) := congrFun e0 _
    show _ = (if p.val = 0 then HAdd.hAdd (α := EReal) (β := EReal) (Cert.KernelIdeal.Hand.HID m c (ix3 b p d)) (Cert.KernelIdeal.Hand.ADD (F := Ideal) (Cert.KernelIdeal.Hand.X0 m c) (Cert.KernelIdeal.Hand.X1 m c) (Cert.KernelIdeal.Hand.X2 m c) (ix3 b (0 : Fin 1) d)) else Cert.KernelIdeal.Hand.HID m c (ix3 b p d))
    rw [Cert.KernelIdeal.Hand.vADD kx k1 k2 b d, eh]
    by_cases hp : p = 0
    · have hv : p.val = 0 := congrArg Fin.val hp
      exact (if_pos hp).trans (if_pos hv).symm
    · have hv : ¬p.val = 0 := fun h => hp (Fin.ext h)
      exact (if_neg hp).trans (if_neg hv).symm
  · rw [Cert.KernelIdeal.Hand.arr5 m c (fun b k => pat (s b) ⟨k.val, by omega⟩) fun b k j => (Cert.KernelIdeal.Hand.vOH kx b k j).trans (by split <;> simp)]
    funext i
    obtain ⟨b, k, d, rfl⟩ := Cert.KernelIdeal.Hand.eta3 (A := 8) (B := 84) (C := 768) i
    refine (Cert.ReferenceIdeal.Hand.vR1 rx rw1 rw2 b k d).trans ((congrFun e0 _).trans ?_)
    refine congrArg (m ((c.tc : Thread Cert.KernelIdeal.nD Cert.KernelIdeal.τ).loc Cert.KernelIdeal.main_arg0)) ?_
    exact congrArg (fun q => ix3 b q d) (Fin.ext (Nat.add_comm _ _))
  · funext i
    obtain ⟨b, k, rfl⟩ := Cert.ReferenceIdeal.Hand.idx2_eta (m := 8) (n := 84) i
    refine (Cert.ReferenceIdeal.Hand.v179 rx b k).trans ?_
    rw [Cert.KernelIdeal.Hand.v4_read, Cert.KernelIdeal.Hand.arr7]
    exact (Cert.KernelIdeal.Hand.vPIDX kx b k).symm

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.ReferenceIdeal
public import proofs.«01_k».proof.Proof.Gen.ReferenceIdeal.Run
public import proofs.«01_k».proof.Proof.Gen.Pre_finite
public import proofs.«01_k».proof.Proof.KernelFrame
public import proofs.«01_k».proof.Proof.Launch
public import proofs.«01_k».proof.Proof.Tie
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: its host operations write none of the arguments, and it has no semaphore. -/
theorem frame_reference : Cert.quiescent_ReferenceIdeal (hReferenceIdeal := Cert.ReferenceIdeal.Gen.facts) := fun m g _ =>
  (θ_run _ _ _).mono (fun r h => ⟨fun c => ⟨(h c).2.2.2.1, (h c).2.2.2.2.1, (h c).2.2.2.2.2.1, (h c).2.2.2.2.2.2.1, (h c).2.2.2.2.2.2.2⟩,
      sem_eq_zero_of_no_sems (by decide) r.2⟩)
    (Cert.ReferenceIdeal.Value.run m g)

/-- The two constants named: the words the kernel prints for 1/24 and 1/π. -/
theorem named : Cert.preserves_Kernel_KernelIdeal :=
  ⟨IdealRules.named_const.statement Cert.KernelIdeal.κ "inv24" .f32 0x3D2AAAAB#32 ((24⁻¹ : ℝ) : EReal) rfl,
    IdealRules.named_const.statement Cert.KernelIdeal.κ "invpi" .f32 0x3EA2F983#32 ((4194304 / 13176795 : ℝ) : EReal) rfl⟩

/-- The reference's frame under the precondition: the same, of fewer inputs. -/
theorem frame_reference_finite : Cert.quiescent_ReferenceIdeal_pre_finite (hReferenceIdeal := Cert.ReferenceIdeal.Gen.facts)
    (hPre_finite := Cert.Pre_finite.Gen.facts) := fun m g _ => frame_reference m g trivial

/-- The five claims. -/
theorem claim : Cert.Claim :=
  ⟨Cert.Kernel.Gen.facts, Cert.KernelIdeal.Gen.facts, Cert.ReferenceIdeal.Gen.facts, Cert.Pre_finite.Gen.facts,
    fun m ρ _ => Cert.Kernel.Hand.frame_all m ρ,
    fun m ρ _ => Cert.KernelIdeal.Hand.frame_all m ρ,
    fun m ρ _ => Cert.KernelIdeal.Hand.frame_all m ρ,
    frame_reference, frame_reference_finite, named, Cert.Tie.value⟩

end Cert.Proof

end
